-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmasked_finite_tags [hPre_unmasked_finite_tags : Cert.Pre_unmasked_finite_tags.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked_finite_tags.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmasked_finite_tags [hPre_unmasked_finite_tags : Cert.Pre_unmasked_finite_tags.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmasked_finite_tags.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unmasked_finite_tags [hKernelIdeal : Cert.KernelIdeal.Facts] [hPre_unmasked_finite_tags : Cert.Pre_unmasked_finite_tags.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked_finite_tags m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_unmasked_finite_tags [hReferenceIdeal : Cert.ReferenceIdeal.Facts] [hPre_unmasked_finite_tags : Cert.Pre_unmasked_finite_tags.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmasked_finite_tags m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_unmasked_finite_tags [hKernelIdeal : Cert.KernelIdeal.Facts] [hReferenceIdeal : Cert.ReferenceIdeal.Facts] [hPre_unmasked_finite_tags : Cert.Pre_unmasked_finite_tags.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmasked_finite_tags m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_unmasked_finite_tags : Cert.Pre_unmasked_finite_tags.Facts),
    quiescent_Kernel (hKernel := hKernel)
    ∧ quiescent_KernelIdeal (hKernelIdeal := hKernelIdeal)
    ∧ quiescent_KernelIdeal_pre_unmasked_finite_tags (hKernelIdeal := hKernelIdeal) (hPre_unmasked_finite_tags := hPre_unmasked_finite_tags)
    ∧ quiescent_ReferenceIdeal (hReferenceIdeal := hReferenceIdeal)
    ∧ quiescent_ReferenceIdeal_pre_unmasked_finite_tags (hReferenceIdeal := hReferenceIdeal) (hPre_unmasked_finite_tags := hPre_unmasked_finite_tags)
    ∧ preserves_Kernel_KernelIdeal
    ∧ algebraic_KernelIdeal_ReferenceIdeal_pre_unmasked_finite_tags (hKernelIdeal := hKernelIdeal) (hReferenceIdeal := hReferenceIdeal) (hPre_unmasked_finite_tags := hPre_unmasked_finite_tags)
-- ==== Pre_unmasked_finite_tags.lean ====
abbrev S16x512x50 : Shape := ⟨3, ![16, 512, 50]⟩
abbrev S16x512 : Shape := ⟨2, ![16, 512]⟩
abbrev S50x50 : Shape := ⟨2, ![50, 50]⟩
abbrev S_ : Shape := ⟨0, ![]⟩

class Facts : Prop where
  reducesTo_S16x512_S_d0_1 : S16x512.ReducesTo [0, 1] S_
  h_S_ : 0 < S_.numel
  bcast_S_S16x512x50 : S_.BroadcastsInDim S16x512x50 (![] : Fin 0 → Fin S16x512x50.rank)
  reducesTo_S16x512x50_S_d0_1_2 : S16x512x50.ReducesTo [0, 1, 2] S_
  bcast_S_S16x512 : S_.BroadcastsInDim S16x512 (![] : Fin 0 → Fin S16x512.rank)
  bcast_S_S50x50 : S_.BroadcastsInDim S50x50 (![] : Fin 0 → Fin S50x50.rank)
  reducesTo_S50x50_S_d0_1 : S50x50.ReducesTo [0, 1] S_

variable [Facts]

def fn_part1 {F : FTy → Type} [FloatOps F] (main_v12 : IVec S_ 1) (main_v15 : IVec S50x50 1) (main_c_5 : IVec S_ 1) : IVec S_ 1 :=
  let main_v16 : IVec S_ 1 := (fun x v => Host.reduce IntOp.andi x v reducesTo_S50x50_S_d0_1 h_S_) main_v15 main_c_5
  let main_v17 : IVec S_ 1 := andi main_v12 main_v16
  main_v17

def fn {F : FTy → Type} [FloatOps F] (main_arg0 : FVec F S16x512x50 .f32) (main_arg1 : IVec S16x512 1) (main_arg2 : IVec S16x512 32) (main_arg3 : FVec F S50x50 .f32) : IVec S_ 1 :=
  let main_c : IVec S_ 1 := constantI S_ 1 1#1
  let main_v0 : IVec S_ 1 := (fun x v => Host.reduce IntOp.andi x v reducesTo_S16x512_S_d0_1 h_S_) main_arg1 main_c
  let main_v1 : FVec F S16x512x50 .f32 := Host.absf main_arg0
  let main_cst : FVec F S_ .f32 := constant S_ .f32 0x7F800000#32
  let main_v2 : FVec F S16x512x50 .f32 := broadcastInDim S16x512x50 ![] bcast_S_S16x512x50 main_cst
  let main_v3 : IVec S16x512x50 1 := cmpf .olt main_v1 main_v2
  let main_c_0 : IVec S_ 1 := constantI S_ 1 1#1
  let main_v4 : IVec S_ 1 := (fun x v => Host.reduce IntOp.andi x v reducesTo_S16x512x50_S_d0_1_2 h_S_) main_v3 main_c_0
  let main_v5 : IVec S_ 1 := andi main_v0 main_v4
  let main_c_1 : IVec S_ 32 := constantI S_ 32 0#32
  let main_v6 : IVec S16x512 32 := broadcastInDim S16x512 ![] bcast_S_S16x512 main_c_1
  let main_v7 : IVec S16x512 1 := cmpi .sge main_arg2 main_v6
  let main_c_2 : IVec S_ 32 := constantI S_ 32 50#32
  let main_v8 : IVec S16x512 32 := broadcastInDim S16x512 ![] bcast_S_S16x512 main_c_2
  let main_v9 : IVec S16x512 1 := cmpi .slt main_arg2 main_v8
  let main_v10 : IVec S16x512 1 := andi main_v7 main_v9
  let main_c_3 : IVec S_ 1 := constantI S_ 1 1#1
  let main_v11 : IVec S_ 1 := (fun x v => Host.reduce IntOp.andi x v reducesTo_S16x512_S_d0_1 h_S_) main_v10 main_c_3
  let main_v12 : IVec S_ 1 := andi main_v5 main_v11
  let main_v13 : FVec F S50x50 .f32 := Host.absf main_arg3
  let main_cst_4 : FVec F S_ .f32 := constant S_ .f32 0x7F800000#32
  let main_v14 : FVec F S50x50 .f32 := broadcastInDim S50x50 ![] bcast_S_S50x50 main_cst_4
  let main_v15 : IVec S50x50 1 := cmpf .olt main_v13 main_v14
  let main_c_5 : IVec S_ 1 := constantI S_ 1 1#1
  fn_part1 (F := F) main_v12 main_v15 main_c_5
-- ==== Kernel.lean ====
abbrev S16x512x50 : Shape := ⟨3, ![16, 512, 50]⟩
abbrev S16x512 : Shape := ⟨2, ![16, 512]⟩
abbrev S50x50 : Shape := ⟨2, ![50, 50]⟩
abbrev S512x16x50 : Shape := ⟨3, ![512, 16, 50]⟩
abbrev S_ : Shape := ⟨0, ![]⟩
abbrev S16x1 : Shape := ⟨2, ![16, 1]⟩
abbrev S16x511 : Shape := ⟨2, ![16, 511]⟩
abbrev S512x16 : Shape := ⟨2, ![512, 16]⟩
abbrev S1x1 : Shape := ⟨2, ![1, 1]⟩
abbrev S512x16x1 : Shape := ⟨3, ![512, 16, 1]⟩
abbrev S8192x50 : Shape := ⟨2, ![8192, 50]⟩
abbrev S1x8192x50 : Shape := ⟨3, ![1, 8192, 50]⟩
abbrev S1 : Shape := ⟨1, ![1]⟩
abbrev S1x1x1 : Shape := ⟨3, ![1, 1, 1]⟩
abbrev S1x16x50 : Shape := ⟨3, ![1, 16, 50]⟩
abbrev S16x50 : Shape := ⟨2, ![16, 50]⟩
abbrev S1x16x1 : Shape := ⟨3, ![1, 16, 1]⟩
abbrev S1x512x16 : Shape := ⟨3, ![1, 512, 16]⟩
abbrev S1x50 : Shape := ⟨2, ![1, 50]⟩
abbrev S16 : Shape := ⟨1, ![16]⟩

abbrev nBuf : Space → Nat
  | .hbm => 13
  | .vmem => 6
  | .smem => 0
  | _ => 0

abbrev bufTy : (tb : Table) → Fin (tcTables nBuf tb) → BufTy
  | .hbm, ⟨0, _⟩ => ⟨S16x512x50, .f32⟩
  | .hbm, ⟨1, _⟩ => ⟨S16x512, .i1⟩
  | .hbm, ⟨2, _⟩ => ⟨S16x512, .i32⟩
  | .hbm, ⟨3, _⟩ => ⟨S50x50, .f32⟩
  | .hbm, ⟨4, _⟩ => ⟨S512x16x50, .f32⟩
  | .hbm, ⟨5, _⟩ => ⟨S_, .i32⟩
  | .hbm, ⟨6, _⟩ => ⟨S16x1, .i32⟩
  | .hbm, ⟨7, _⟩ => ⟨S16x511, .i32⟩
  | .hbm, ⟨8, _⟩ => ⟨S16x512, .i32⟩
  | .hbm, ⟨9, _⟩ => ⟨S512x16, .i32⟩
  | .hbm, ⟨10, _⟩ => ⟨S512x16, .i32⟩
  | .hbm, ⟨11, _⟩ => ⟨S1x1, .f32⟩
  | .hbm, ⟨12, _⟩ => ⟨S_, .f32⟩
  | .local _ .vmem, ⟨0, _⟩ => ⟨S512x16x50, .f32⟩
  | .local _ .vmem, ⟨1, _⟩ => ⟨S512x16, .i32⟩
  | .local _ .vmem, ⟨2, _⟩ => ⟨S512x16, .i32⟩
  | .local _ .vmem, ⟨3, _⟩ => ⟨S50x50, .f32⟩
  | .local _ .vmem, ⟨4, _⟩ => ⟨S1x1, .f32⟩
  | .local _ .vmem, ⟨5, _⟩ => ⟨S512x16x50, .f32⟩
  | _, _ => ⟨S16x512x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c63_i32 : BitVec 32 := 63#32
  let v97 : BitVec 32 := Scalar.addi c1_i32 c63_i32
  let c1_i32_44 : BitVec 32 := 1#32
  ⟨c1_i32, v97, c1_i32_44⟩
def k0_off1 (k0_t1 : Fin k0_t1_loop.trips) (c0_i32 : BitVec 32) : Fin 3 → Nat :=
  let c1_i32 : BitVec 32 := 1#32
  let c1_i32_44 : BitVec 32 := 1#32
  let arg6 : BitVec 32 := Scf.iv c1_i32 c1_i32_44 k0_t1
  let c8_i32 : BitVec 32 := 8#32
  let v111 : BitVec 32 := Scalar.muli arg6 c8_i32
  let v112 : BitVec 32 := Scalar.addi v111 c0_i32
  let v113 : Index := Scalar.indexCast v112
  let c0_50 : Index := 0#32
  let c0_51 : Index := 0#32
  ![v113.toNat, 0, 0]
abbrev stage0_0 : Fin 1 → Memref sig .tc .vmem S512x16x50 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S50x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16x512x50 : Shape := ⟨3, ![16, 512, 50]⟩
abbrev S16x512 : Shape := ⟨2, ![16, 512]⟩
abbrev S50x50 : Shape := ⟨2, ![50, 50]⟩
abbrev S512x16x50 : Shape := ⟨3, ![512, 16, 50]⟩
abbrev S512x16x1x50 : Shape := ⟨4, ![512, 16, 1, 50]⟩
abbrev S1x1x50x50 : Shape := ⟨4, ![1, 1, 50, 50]⟩
abbrev S512x16x50x50 : Shape := ⟨4, ![512, 16, 50, 50]⟩
abbrev S_ : Shape := ⟨0, ![]⟩
abbrev S16x1 : Shape := ⟨2, ![16, 1]⟩
abbrev S16x511 : Shape := ⟨2, ![16, 511]⟩
abbrev S512x16x2500 : Shape := ⟨3, ![512, 16, 2500]⟩
abbrev S512x16 : Shape := ⟨2, ![512, 16]⟩
abbrev S512x16x1 : Shape := ⟨3, ![512, 16, 1]⟩
abbrev S512x16x1x1 : Shape := ⟨4, ![512, 16, 1, 1]⟩
abbrev S1 : Shape := ⟨1, ![1]⟩
abbrev S1x1x1x1 : Shape := ⟨4, ![1, 1, 1, 1]⟩
abbrev S16 : Shape := ⟨1, ![16]⟩
abbrev S16x1x1 : Shape := ⟨3, ![16, 1, 1]⟩
abbrev S1x1x1 : Shape := ⟨3, ![1, 1, 1]⟩
abbrev S16x2 : Shape := ⟨2, ![16, 2]⟩
abbrev S1x16x50x50 : Shape := ⟨4, ![1, 16, 50, 50]⟩
abbrev S16x50x50 : Shape := ⟨3, ![16, 50, 50]⟩
abbrev S16x1x50 : Shape := ⟨3, ![16, 1, 50]⟩
abbrev S16x50 : Shape := ⟨2, ![16, 50]⟩
abbrev S511x16x50x50 : Shape := ⟨4, ![511, 16, 50, 50]⟩
abbrev S511x16 : Shape := ⟨2, ![511, 16]⟩
abbrev S1x16 : Shape := ⟨2, ![1, 16]⟩
abbrev S16x50x1 : Shape := ⟨3, ![16, 50, 1]⟩
abbrev S1x50x50 : Shape := ⟨3, ![1, 50, 50]⟩

abbrev nBuf : Space → Nat
  | .hbm => 157
  | .vmem => 0
  | .smem => 0
  | _ => 0

abbrev hbmTy0_0 (i : Nat) : BufTy := match i % 128 with
  | 0 => ⟨S16x512x50, .f32⟩
  | 1 => ⟨S16x512, .i1⟩
  | 2 => ⟨S16x512, .i32⟩
  | 3 => ⟨S50x50, .f32⟩
  | 4 => ⟨S512x16x50, .f32⟩
  | 5 => ⟨S512x16x1x50, .f32⟩
  | 6 => ⟨S1x1x50x50, .f32⟩
  | 7 => ⟨S512x16x50x50, .f32⟩
  | 8 => ⟨S512x16x50x50, .f32⟩
  | 9 => ⟨S512x16x50x50, .f32⟩
  | 10 => ⟨S_, .i32⟩
  | 11 => ⟨S16x1, .i32⟩
  | 12 => ⟨S16x511, .i32⟩
  | 13 => ⟨S16x512, .i32⟩
  | 14 => ⟨S_, .i32⟩
  | 15 => ⟨S16x512, .i32⟩
  | 16 => ⟨S16x512, .i32⟩
  | 17 => ⟨S16x512, .i32⟩
  | 18 => ⟨S512x16x2500, .f32⟩
  | 19 => ⟨S512x16, .i32⟩
  | 20 => ⟨S512x16x1, .i32⟩
  | 21 => ⟨S_, .i32⟩
  | 22 => ⟨S512x16x1, .i32⟩
  | 23 => ⟨S512x16x1, .i1⟩
  | 24 => ⟨S_, .i32⟩
  | 25 => ⟨S512x16x1, .i32⟩
  | 26 => ⟨S512x16x1, .i32⟩
  | 27 => ⟨S512x16x1, .i32⟩
  | 28 => ⟨S512x16x1x1, .i32⟩
  | 29 => ⟨S1, .i32⟩
  | 30 => ⟨S_, .i32⟩
  | 31 => ⟨S512x16x1x1, .i32⟩
  | 32 => ⟨S512x16x1x1, .i1⟩
  | 33 => ⟨S1x1x1x1, .i32⟩
  | 34 => ⟨S512x16x1x1, .i32⟩
  | 35 => ⟨S512x16x1x1, .i1⟩
  | 36 => ⟨S512x16x1x1, .i1⟩
  | 37 => ⟨S_, .i1⟩
  | 38 => ⟨S512x16x1, .i1⟩
  | 39 => ⟨S512x16x1, .f32⟩
  | 40 => ⟨S_, .f32⟩
  | 41 => ⟨S512x16x1, .f32⟩
  | 42 => ⟨S512x16x1, .f32⟩
  | 43 => ⟨S512x16, .f32⟩
  | 44 => ⟨S512x16, .i1⟩
  | 45 => ⟨S512x16, .f32⟩
  | 46 => ⟨S512x16, .f32⟩
  | 47 => ⟨S_, .f32⟩
  | 48 => ⟨S_, .f32⟩
  | 49 => ⟨S16x512, .i32⟩
  | 50 => ⟨S_, .i32⟩
  | 51 => ⟨S16, .i32⟩
  | 52 => ⟨S_, .i32⟩
  | 53 => ⟨S16, .i32⟩
  | 54 => ⟨S16, .i32⟩
  | 55 => ⟨S16x1, .i32⟩
  | 56 => ⟨S_, .i32⟩
  | 57 => ⟨S16x1, .i32⟩
  | 58 => ⟨S16x1, .i1⟩
  | 59 => ⟨S_, .i32⟩
  | 60 => ⟨S16x1, .i32⟩
  | 61 => ⟨S16x1, .i32⟩
  | 62 => ⟨S16x1, .i32⟩
  | 63 => ⟨S16x1x1, .i32⟩
  | 64 => ⟨S1, .i32⟩
  | 65 => ⟨S_, .i32⟩
  | 66 => ⟨S16x1x1, .i32⟩
  | 67 => ⟨S16x1x1, .i1⟩
  | 68 => ⟨S1x1x1, .i32⟩
  | 69 => ⟨S16x1x1, .i32⟩
  | 70 => ⟨S16x1x1, .i1⟩
  | 71 => ⟨S16x1x1, .i1⟩
  | 72 => ⟨S_, .i1⟩
  | 73 => ⟨S16x1, .i1⟩
  | 74 => ⟨S16x1, .i32⟩
  | 75 => ⟨S_, .i32⟩
  | 76 => ⟨S16x1, .i32⟩
  | 77 => ⟨S16x1, .i32⟩
  | 78 => ⟨S16, .i32⟩
  | 79 => ⟨S_, .i32⟩
  | 80 => ⟨S16, .i32⟩
  | 81 => ⟨S16, .i1⟩
  | 82 => ⟨S_, .i32⟩
  | 83 => ⟨S16, .i32⟩
  | 84 => ⟨S16, .i32⟩
  | 85 => ⟨S16, .i32⟩
  | 86 => ⟨S_, .i32⟩
  | 87 => ⟨S16, .i32⟩
  | 88 => ⟨S16, .i32⟩
  | 89 => ⟨S16x1, .i32⟩
  | 90 => ⟨S16x1, .i32⟩
  | 91 => ⟨S16x2, .i32⟩
  | 92 => ⟨S16, .f32⟩
  | 93 => ⟨S_, .f32⟩
  | 94 => ⟨S_, .f32⟩
  | 95 => ⟨S_, .f32⟩
  | 96 => ⟨S1x16x50x50, .f32⟩
  | 97 => ⟨S16x50x50, .f32⟩
  | 98 => ⟨S16x1x50, .f32⟩
  | 99 => ⟨S16x50, .f32⟩
  | 100 => ⟨S511x16x50x50, .f32⟩
  | 101 => ⟨S511x16, .i1⟩
  | 102 => ⟨S_, .i32⟩
  | 103 => ⟨S511x16x50x50, .f32⟩
  | 104 => ⟨S511x16, .i1⟩
  | 105 => ⟨S_, .i32⟩
  | 106 => ⟨S16x50, .f32⟩
  | 107 => ⟨S_, .i32⟩
  | 108 => ⟨S_, .i1⟩
  | 109 => ⟨S_, .i32⟩
  | 110 => ⟨S_, .i32⟩
  | 111 => ⟨S_, .i32⟩
  | 112 => ⟨S1x16x50x50, .f32⟩
  | 113 => ⟨S16x50x50, .f32⟩
  | 114 => ⟨S_, .i32⟩
  | 115 => ⟨S1x16, .i1⟩
  | 116 => ⟨S16, .i1⟩
  | 117 => ⟨S16x50x1, .f32⟩
  | 118 => ⟨S16x50x50, .f32⟩
  | 119 => ⟨S16x50x50, .f32⟩
  | 120 => ⟨S_, .f32⟩
  | 121 => ⟨S16x50, .f32⟩
  | 122 => ⟨S16x1x50, .f32⟩
  | 123 => ⟨S16x50, .f32⟩
  | 124 => ⟨S16x50x50, .f32⟩
  | 125 => ⟨S16x50x50, .f32⟩
  | 126 => ⟨S16x50x50, .f32⟩
  | 127 => ⟨S_, .f32⟩
  | _ => ⟨S16x512x50, .f32⟩

abbrev hbmTy0_1 (i : Nat) : BufTy := match i % 128 with
  | 0 => ⟨S16x50, .f32⟩
  | 1 => ⟨S16x50, .f32⟩
  | 2 => ⟨S16x50, .f32⟩
  | 3 => ⟨S16x1, .i1⟩
  | 4 => ⟨S16x50, .i1⟩
  | 5 => ⟨S16x50, .f32⟩
  | 6 => ⟨S_, .i32⟩
  | 7 => ⟨S_, .i32⟩
  | 8 => ⟨S1x50x50, .f32⟩
  | 9 => ⟨S16x50x1, .f32⟩
  | 10 => ⟨S16x50x50, .f32⟩
  | 11 => ⟨S16x50x50, .f32⟩
  | 12 => ⟨S16x50x50, .f32⟩
  | 13 => ⟨S_, .f32⟩
  | 14 => ⟨S16x50, .f32⟩
  | 15 => ⟨S16x1x50, .f32⟩
  | 16 => ⟨S16x50, .f32⟩
  | 17 => ⟨S16x50x50, .f32⟩
  | 18 => ⟨S16x50x50, .f32⟩
  | 19 => ⟨S16x50x50, .f32⟩
  | 20 => ⟨S_, .f32⟩
  | 21 => ⟨S16x50, .f32⟩
  | 22 => ⟨S16x50, .f32⟩
  | 23 => ⟨S16x50, .f32⟩
  | 24 => ⟨S16x1, .f32⟩
  | 25 => ⟨S16, .f32⟩
  | 26 => ⟨S_, .f32⟩
  | 27 => ⟨S_, .f32⟩
  | 28 => ⟨S_, .f32⟩
  | _ => ⟨S16x512x50, .f32⟩

abbrev hbmTy (i : Nat) : BufTy := match i / 128 with
  | 0 => hbmTy0_0 i
  | 1 => hbmTy0_1 i
  | _ => ⟨S16x512x50, .f32⟩

abbrev bufTy : (tb : Table) → Fin (tcTables nBuf tb) → BufTy
  | .hbm, ⟨i, _⟩ => hbmTy i
  | _, _ => ⟨S16x512x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst : Ref sig .tc := ⟨.hbm, 47, rfl⟩
abbrev main_v20 : Ref sig .tc := ⟨.hbm, 48, rfl⟩
abbrev main_v21 : Ref sig .tc := ⟨.hbm, 49, rfl⟩
abbrev main_c_1 : Ref sig .tc := ⟨.hbm, 50, rfl⟩
abbrev main_v22 : Ref sig .tc := ⟨.hbm, 51, rfl⟩
abbrev main_c_2 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_c_4 : Ref sig .tc := ⟨.hbm, 75, rfl⟩
abbrev main_call1_v14 : Ref sig .tc := ⟨.hbm, 76, rfl⟩
abbrev main_v26 : Ref sig .tc := ⟨.hbm, 77, rfl⟩
abbrev main_v27 : Ref sig .tc := ⟨.hbm, 78, rfl⟩
abbrev main_c_3 : Ref sig .tc := ⟨.hbm, 79, rfl⟩
abbrev main_v28 : Ref sig .tc := ⟨.hbm, 80, rfl⟩
abbrev main_v29 : Ref sig .tc := ⟨.hbm, 81, rfl⟩
abbrev main_c_4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_5 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_6 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_c_7 : Ref sig .tc := ⟨.hbm, 102, rfl⟩
abbrev main_v47_0 : Ref sig .tc := ⟨.hbm, 103, rfl⟩
abbrev main_v47_1 : Ref sig .tc := ⟨.hbm, 104, rfl⟩
abbrev main_v47_2 : Ref sig .tc := ⟨.hbm, 105, rfl⟩
abbrev main_v47_3 : Ref sig .tc := ⟨.hbm, 106, rfl⟩
abbrev main_while0c_c_14 : Ref sig .tc := ⟨.hbm, 107, rfl⟩
abbrev main_while0c_v66 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_call2_c_1 : Ref sig .tc := ⟨.hbm, 111, rfl⟩
abbrev main_while0b_call2_v0 : Ref sig .tc := ⟨.hbm, 112, rfl⟩
abbrev main_while0b_v66 : Ref sig .tc := ⟨.hbm, 113, rfl⟩
abbrev main_while0b_call3_c : Ref sig .tc := ⟨.hbm, 114, rfl⟩
abbrev main_while0b_call3_v0 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_cst_14 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_cst_15 : Ref sig .tc := ⟨.hbm, 127, rfl⟩
abbrev main_while0b_v77 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_call4_v0 : Ref sig .tc := ⟨.hbm, 132, rfl⟩
abbrev main_while0b_v81 : Ref sig .tc := ⟨.hbm, 133, rfl⟩
abbrev main_while0b_c_16 : Ref sig .tc := ⟨.hbm, 134, rfl⟩
abbrev main_while0b_v82 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_cst_8 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_cst_9 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_cst_10 : Ref sig .tc := ⟨.hbm, 154, rfl⟩
abbrev main_v64 : Ref sig .tc := ⟨.hbm, 155, rfl⟩
abbrev main_v65 : Ref sig .tc := ⟨.hbm, 156, rfl⟩

abbrev nD : Nat := 1
abbrev τ : Topo := Topo.v7x

variable {F : FTy → Type} [FloatOps F]

abbrev main_while0_count : Scf.Loop 32 := ⟨0#32, 511#32, 1#32⟩
-- ==== Proof.KernelRun.lean ====
/-
  What one run of the kernel's body leaves in its output block, as a term of the block's own operations: the body
  stores `exp (row - row maximum)` of all 512 rows once, and from then on it reads rows of that array. `rowOf` is such
  a row, `trip` one pass of the counted loop (eight words and one rescaling), `state` the carried pair before pass `k`,
  and `block` the value stored.
-/
module

public import proofs.«01_k».proof.Proof.Gen.KernelIdeal.Frame
public import Idealize.ShloMosaic.Lib.Tactic
public import Idealize.ShloMosaic.Lib.VecWindow
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Idealize.ShloMosaic.Pointwise

variable {F : FTy → Type} [FloatOps F]

/-- Row `n` of the stored array, as the body loads it. -/
def rowOf (X : FVec F S512x16x50 .f32) (n : ℕ) : FVec F S1x16x50 .f32 :=
  fun y => X (ix3 (⟨n % 512, Nat.mod_lt _ (by decide)⟩ : Fin 512) (y 1) (y 2))

/-- One pass of the loop: words `8k + 8 … 8k + 15` and one rescaling. -/
def trip (v3 : FVec F S50x50 .f32) (X : FVec F S512x16x50 .f32) (k : ℕ) (a : FVec F S16x50 .f32 × FVec F S16x1 .f32) :
    FVec F S16x50 .f32 × FVec F S16x1 .f32 :=
  (k0_pay7 v3 (k0_pay10 (rowOf X (8 * k + 12)))
      (k0_pay11 v3 a.1 (rowOf X (8 * k + 8)) (rowOf X (8 * k + 9)) (rowOf X (8 * k + 10)) (rowOf X (8 * k + 11)))
      (rowOf X (8 * k + 13)) (rowOf X (8 * k + 14)) (rowOf X (8 * k + 15)),
    k0_pay8 v3 a.2 (k0_pay10 (rowOf X (8 * k + 12)))
      (k0_pay11 v3 a.1 (rowOf X (8 * k + 8)) (rowOf X (8 * k + 9)) (rowOf X (8 * k + 10)) (rowOf X (8 * k + 11)))
      (rowOf X (8 * k + 13)) (rowOf X (8 * k + 14)) (rowOf X (8 * k + 15)))

/-- The pair the loop starts from: words 0 … 7 and one rescaling. -/
def start (v3 : FVec F S50x50 .f32) (X : FVec F S512x16x50 .f32) : FVec F S16x50 .f32 × FVec F S16x1 .f32 :=
  (k0_pay3 v3 (k0_pay20 v3 (rowOf X 0) (rowOf X 1) (rowOf X 2) (rowOf X 3) (rowOf X 4)) (rowOf X 5) (rowOf X 6) (rowOf X 7),
    k0_pay4 v3 k0_pay19 (k0_pay20 v3 (rowOf X 0) (rowOf X 1) (rowOf X 2) (rowOf X 3) (rowOf X 4)) (rowOf X 5) (rowOf X 6)
      (rowOf X 7))

/-- The carried pair before pass `k`. -/
def state (v3 : FVec F S50x50 .f32) (X : FVec F S512x16x50 .f32) : ℕ → FVec F S16x50 .f32 × FVec F S16x1 .f32
  | 0 => start v3 X
  | k + 1 => trip v3 X k (state v3 X k)

/-- The rows relative to their maxima, exponentiated: the array the body stores. -/
def stored (x0 : FVec F S512x16x50 .f32) : FVec F S512x16x50 .f32 := k0_pay17 (k0_pay12 x0) (k0_pay16 x0)

/-- What the body leaves in its output block, given its four input blocks. -/
def block (x0 : FVec F S512x16x50 .f32) (x1 x2 : IVec S512x16 32) (x3 : FVec F S50x50 .f32) : FVec F S1x1 .f32 :=
  k0_pay9 (k0_pay13 x3) (k0_pay14 x0 x3 x1 x2) (k0_pay18 (k0_pay15 x0))
    (state (k0_pay13 x3) (stored x0) 63).1 (state (k0_pay13 x3) (stored x0) 63).2

/-- A load of one row of a view reads the row of what the view reads. -/
theorem readAt_row {sp : Space} (v : View sig .tc sp S512x16x50 .f32) (X : v.ty.Contents (Elt F)) (n : ℕ) (hn : n < 512)
    (off : Fin 3 → ℕ) (hoff : off = ![n, 0, 0]) (inb : ∀ a, off a + S1x16x50.size a ≤ S512x16x50.size a) :
    View.readAt (Elt F) v (Rect.unit (s := S512x16x50) off S1x16x50.size inb).toLoadRect X = rowOf (v.read (Elt F) X) n := by
  subst hoff
  rw [View.readAt_eq_ld]
  funext y
  refine congrArg (v.read (Elt F) X) (funext fun a => Fin.ext ?_)
  match a with
  | ⟨0, _⟩ =>
    show n + 1 * (y 0).val = n % 512
    have : (y 0).val < 1 := (y 0).isLt
    rw [Nat.mod_eq_of_lt hn]; omega
  | ⟨1, _⟩ => show 0 + 1 * (y 1).val = (y 1).val; omega
  | ⟨2, _⟩ => show 0 + 1 * (y 2).val = (y 2).val; omega

/-- The pieces of one store of the whole array. -/
abbrev whole (w : FVec F S512x16x50 .f32) : List (View.Piece (Elt F) S512x16x50 .f32) :=
  [⟨Rect.unit (s := S512x16x50) ![0, 0, 0] S512x16x50.size inb_S512x16x50_S512x16x50_0_0_0, w⟩]

/-- After such a store the view reads the payload, -/
theorem read_whole {sp : Space} (v : View sig .tc sp S512x16x50 .f32) (X : v.ty.Contents (Elt F)) (w : FVec F S512x16x50 .f32) :
    v.read (Elt F) (v.writes (Elt F) X (whole w)) = w :=
  View.read_writes_full v X inb_S512x16x50_S512x16x50_0_0_0 w []

/-- and a load of one row reads a row of it. -/
theorem readCov_row {sp : Space} (v : View sig .tc sp S512x16x50 .f32) (w : FVec F S512x16x50 .f32) (n : ℕ) (hn : n < 512)
    (inb : ∀ a, (![n, 0, 0] : Fin 3 → ℕ) a + S1x16x50.size a ≤ S512x16x50.size a) :
    v.readCov (whole w) (Rect.unit (s := S512x16x50) ![n, 0, 0] S1x16x50.size inb).toLoadRect = rowOf w n := by
  have h := readAt_row v (v.writes (Elt F) v.junk (whole w)) n hn _ rfl inb
  rw [read_whole] at h
  exact h

section
variable (𝒱 : Variants) (c : Dev nD) (bd : Option 𝒱.V) (arg0 : Memref sig .tc .vmem S512x16x50 .f32) (harg0 : arg0.IsWhole) (arg1 : Memref sig .tc .vmem S512x16 .i32) (harg1 : arg1.IsWhole) (arg2 : Memref sig .tc .vmem S512x16 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S512x16x50 .f32) (harg5 : arg5.IsWhole)

/-- The run's own pass is `trip`. -/
theorem trip_eq (v3 : FVec F S50x50 .f32) (X : BufTy.Contents (Elt F) arg5.view.ty) (k : Fin k0_t1_loop.trips)
    (a : FVec F S16x50 .f32 × FVec F S16x1 .f32) :
    tripR_k0_t1 𝒱 c bd arg0 harg0 arg1 harg1 arg2 harg2 arg3 harg3 arg4 harg4 arg5 harg5 v3 X k a
      = trip v3 (arg5.view.read (Elt F) X) k.val a := by
  have hk : k.val < 63 := Nat.lt_of_lt_of_le k.isLt k0_t1_abs.2.1
  have e : ∀ (r : Fin 8) (n : ℕ) (inb), n = 8 * k.val + r.val + 8 → rowOf (arg5.view.read (Elt F) X) n
      = View.readAt (Elt F) arg5.view
          (Rect.unit (s := S512x16x50) (k0_off1 k (BitVec.ofNat 32 r.val)) S1x16x50.size inb).toLoadRect X := by
    rintro r n inb rfl
    exact (readAt_row arg5.view X _ (by omega) _ (k0_off1_eq k r) inb).symm
  unfold trip
  rw [e 0 (8 * k.val + 8) (k0_off1_inb k 0) rfl, e 1 (8 * k.val + 9) (k0_off1_inb k 1) rfl, e 2 (8 * k.val + 10) (k0_off1_inb k 2) rfl, e 3 (8 * k.val + 11) (k0_off1_inb k 3) rfl,
    e 4 (8 * k.val + 12) (k0_off1_inb k 4) rfl, e 5 (8 * k.val + 13) (k0_off1_inb k 5) rfl, e 6 (8 * k.val + 14) (k0_off1_inb k 6) rfl, e 7 (8 * k.val + 15) (k0_off1_inb k 7) rfl]
  unfold tripR_k0_t1 trip_k0_t1
  rfl

/-- So the run's carried pair is `state`. -/
theorem state_eq (v3 : FVec F S50x50 .f32) (X : BufTy.Contents (Elt F) arg5.view.ty) :
    ∀ k : ℕ, k ≤ 63 → st_k0_t1 𝒱 c bd arg0 harg0 arg1 harg1 arg2 harg2 arg3 harg3 arg4 harg4 arg5 harg5 v3 X
        (start v3 (arg5.view.read (Elt F) X)) k = state v3 (arg5.view.read (Elt F) X) k
  | 0, _ => rfl
  | k + 1, h => by
    have hT : k0_t1_loop.trips = 63 := by decide
    have := st_k0_t1_succ 𝒱 c bd arg0 harg0 arg1 harg1 arg2 harg2 arg3 harg3 arg4 harg4 arg5 harg5 v3 X
      (start v3 (arg5.view.read (Elt F) X)) ⟨k, by omega⟩
    rw [this, trip_eq, state_eq v3 X k (by omega)]
    rfl

/-- And over an array that one store has filled. -/
theorem state_writes (v3 : FVec F S50x50 .f32) (X : BufTy.Contents (Elt F) arg5.view.ty) (w : FVec F S512x16x50 .f32) (k : ℕ)
    (hk : k ≤ 63) : st_k0_t1 𝒱 c bd arg0 harg0 arg1 harg1 arg2 harg2 arg3 harg3 arg4 harg4 arg5 harg5 v3
      (arg5.view.writes (Elt F) X (whole w)) (start v3 w) k = state v3 w k := by
  have h := state_eq 𝒱 c bd arg0 harg0 arg1 harg1 arg2 harg2 arg3 harg3 arg4 harg4 arg5 harg5 v3
    (arg5.view.writes (Elt F) X (whole w)) k hk
  rw [read_whole] at h
  exact h

/-- The value stored, as the run states it: over the four blocks and the loads of the scratch array it has written. -/
def bodyValue (v0 : FVec F S512x16x50 .f32) (v1 v2 : IVec S512x16 32) (v3 : FVec F S50x50 .f32) : FVec F S1x1 .f32 :=
  let P := whole (k0_pay17 (k0_pay12 v0) (k0_pay16 v0))
  let E := k0_pay13 v3
  let p := k0_pay20 E (arg5.view.readCov P (Rect.unit (s := S512x16x50) ![0, 0, 0] S1x16x50.size inb_S512x16x50_S1x16x50_0_0_0).toLoadRect)
    (arg5.view.readCov P (Rect.unit (s := S512x16x50) ![1, 0, 0] S1x16x50.size inb_S512x16x50_S1x16x50_1_0_0).toLoadRect)
    (arg5.view.readCov P (Rect.unit (s := S512x16x50) ![2, 0, 0] S1x16x50.size inb_S512x16x50_S1x16x50_2_0_0).toLoadRect)
    (arg5.view.readCov P (Rect.unit (s := S512x16x50) ![3, 0, 0] S1x16x50.size inb_S512x16x50_S1x16x50_3_0_0).toLoadRect)
    (arg5.view.readCov P (Rect.unit (s := S512x16x50) ![4, 0, 0] S1x16x50.size inb_S512x16x50_S1x16x50_4_0_0).toLoadRect)
  let r5 := (arg5.view.readCov P (Rect.unit (s := S512x16x50) ![5, 0, 0] S1x16x50.size inb_S512x16x50_S1x16x50_5_0_0).toLoadRect)
  let r6 := (arg5.view.readCov P (Rect.unit (s := S512x16x50) ![6, 0, 0] S1x16x50.size inb_S512x16x50_S1x16x50_6_0_0).toLoadRect)
  let r7 := (arg5.view.readCov P (Rect.unit (s := S512x16x50) ![7, 0, 0] S1x16x50.size inb_S512x16x50_S1x16x50_7_0_0).toLoadRect)
  let st := st_k0_t1 Variants.none c none arg0 harg0 arg1 harg1 arg2 harg2 arg3 harg3 arg4 harg4 arg5 harg5 E
    (arg5.view.writes (Elt F) arg5.view.junk P) (k0_pay3 E p r5 r6 r7, k0_pay4 E k0_pay19 p r5 r6 r7)
    (Scf.trips (1#32) (Scalar.addi 1#32 63#32) 1#32)
  k0_pay9 E (k0_pay14 v0 v3 v1 v2) (k0_pay18 (k0_pay15 v0)) st.1 st.2

-- the two recursions are compared by name, never unfolded at their literal number of passes
seal state st_k0_t1 in
/-- It is `block`. -/
theorem bodyValue_eq (x0 : FVec F S512x16x50 .f32) (x1 x2 : IVec S512x16 32) (x3 : FVec F S50x50 .f32) :
    bodyValue c arg0 harg0 arg1 harg1 arg2 harg2 arg3 harg3 arg4 harg4 arg5 harg5 x0 x1 x2 x3 = block x0 x1 x2 x3 := by
  have hr := fun n hn inb => readCov_row (F := F) arg5.view (k0_pay17 (k0_pay12 x0) (k0_pay16 x0)) n hn inb
  have hs := state_writes Variants.none c none arg0 harg0 arg1 harg1 arg2 harg2 arg3 harg3 arg4 harg4 arg5 harg5 (k0_pay13 x3)
    arg5.view.junk (k0_pay17 (k0_pay12 x0) (k0_pay16 x0)) 63 le_rfl
  have hT : Scf.trips (1#32) (Scalar.addi 1#32 63#32) 1#32 = 63 := by decide
  unfold start at hs
  unfold bodyValue block stored
  dsimp only
  rw [hr 0 (by decide), hr 1 (by decide), hr 2 (by decide), hr 3 (by decide), hr 4 (by decide), hr 5 (by decide),
    hr 6 (by decide), hr 7 (by decide), hT, hs]

/-- What the body leaves in the output's staging buffer. -/
theorem out_eq (x0 : Vec F S512x16x50 .f32) (x1 : Vec F S512x16 .i32) (x2 : Vec F S512x16 .i32) (x3 : Vec F S50x50 .f32) :
    out0_A_4 c arg0 harg0 arg1 harg1 arg2 harg2 arg3 harg3 arg4 harg4 arg5 harg5 x0 x1 x2 x3 = block x0 x1 x2 x3 := by
  unfold out0_A_4
  rw [View.read_writes_eq_canon _ _ _ (cover0_A_4 c arg0 harg0 arg1 harg1 arg2 harg2 arg3 harg3 arg4 harg4 arg5 harg5 x0 x1 x2 x3)]
  have hz3 : (![0, 0, 0] : Fin 3 → ℕ) = fun _ => 0 := funext fun a => by fin_cases a <;> rfl
  have hz2 : (![0, 0] : Fin 2 → ℕ) = fun _ => 0 := funext fun a => by fin_cases a <;> rfl
  have h : (kernelRun0_A c arg0 harg0 arg1 harg1 arg2 harg2 arg3 harg3 arg4 harg4 arg5 harg5 x0 x1 x2 x3).1
      = [⟨Rect.unit (s := S1x1) ![0, 0] S1x1.size inb_S1x1_S1x1_0_0, bodyValue c arg0 harg0 arg1 harg1 arg2 harg2 arg3 harg3 arg4 harg4 arg5 harg5
          (View.readAt (Elt F) arg0.view (Rect.unit (s := S512x16x50) ![0, 0, 0] S512x16x50.size inb_S512x16x50_S512x16x50_0_0_0).toLoadRect (harg0.unread x0))
          (View.readAt (Elt F) arg1.view (Rect.unit (s := S512x16) ![0, 0] S512x16.size inb_S512x16_S512x16_0_0).toLoadRect (harg1.unread x1))
          (View.readAt (Elt F) arg2.view (Rect.unit (s := S512x16) ![0, 0] S512x16.size inb_S512x16_S512x16_0_0).toLoadRect (harg2.unread x2))
          (View.readAt (Elt F) arg3.view (Rect.unit (s := S50x50) ![0, 0] S50x50.size inb_S50x50_S50x50_0_0).toLoadRect (harg3.unread x3))⟩] := by
    unfold kernelRun0_A
    rfl
  rw [h, View.canon_unit_zero hz2]
  simp only [View.readAt_eq_ld, harg0.read_unread, harg1.read_unread, harg2.read_unread, harg3.read_unread,
    View.ld_unit_zero (S := S512x16x50) hz3, View.ld_unit_zero (S := S512x16) hz2, View.ld_unit_zero (S := S50x50) hz2]
  exact bodyValue_eq c arg0 harg0 arg1 harg1 arg2 harg2 arg3 harg3 arg4 harg4 arg5 harg5 x0 x1 x2 x3
end

end Cert.KernelIdeal.Value

end
-- ==== Proof.Math.lean ====
/-
  The mathematics of the loss, over the real numbers: the forward recursion of a linear-chain conditional random
  field in ordinary space (`fwd`), the two ways of computing it that the programs use, and the loss itself.

    * The reference keeps `log (fwd s j)` and goes on by a log-sum-exp around any shift: `log_step`.
    * The kernel keeps a positive vector `p` and one number `acc` with `fwd s j = p j * exp (acc + Σ_{t ≤ s} M t)`,
      `M t` being the number it takes away from row `t` of the features before it exponentiates: `Scaled`,
      `Scaled.start`, `Scaled.step`, `Scaled.renorm`, `Scaled.finish`.
-/
module

public import Mathlib.Analysis.SpecialFunctions.Log.Basic
public import Mathlib.Data.EReal.Operations
public import Mathlib.Algebra.BigOperators.Fin

@[expose] public section

noncomputable section

namespace Cert.Crf

open Finset

/-- The greatest entry of a real vector of 50 entries. -/
def rmax (x : Fin 50 → ℝ) : ℝ := univ.sup' ⟨0, mem_univ _⟩ x

theorem le_rmax (x : Fin 50 → ℝ) (j : Fin 50) : x j ≤ rmax x := le_sup' x (mem_univ j)

theorem rmax_pos {x : Fin 50 → ℝ} (h : ∀ j, 0 < x j) : 0 < rmax x := (h 0).trans_le (le_rmax x 0)

/-- Maxima over the extended reals from `-∞`, of real entries, are real maxima. -/
theorem fold_max_coe (x : Fin 50 → ℝ) : univ.fold max (⊥ : EReal) (fun k => (x k : EReal)) = (rmax x : EReal) := by
  apply le_antisymm
  · rw [fold_max_le]
    exact ⟨bot_le, fun k _ => EReal.coe_le_coe_iff.mpr (le_rmax x k)⟩
  · obtain ⟨k, _, hk⟩ := exists_mem_eq_sup' (s := univ) ⟨0, mem_univ _⟩ x
    rw [le_fold_max]
    exact .inr ⟨k, mem_univ _, by unfold rmax; rw [hk]⟩

/-- A sum of real entries in the extended reals is the real sum. -/
theorem sum_coe {ι : Type*} (s : Finset ι) (x : ι → ℝ) : ∑ k ∈ s, (x k : EReal) = ((∑ k ∈ s, x k : ℝ) : EReal) := by
  classical
  induction s using Finset.induction_on with
  | empty => simp
  | insert a s ha ih => rw [sum_insert ha, sum_insert ha, ih, EReal.coe_add]

/-! ## The forward recursion -/

/-- The tag a sentence begins from. -/
abbrev bos : Fin 50 := 48
/-- The tag a sentence ends in. -/
abbrev eos : Fin 50 := 49

/-- `fwd f t s j`: the sum, over all tag paths of the first `s + 1` words ending in tag `j`, of the exponential of the
    path's score. `f s j` is word `s`'s score for tag `j`, `t i j` the score of going from tag `i` to tag `j`. -/
def fwd (f : ℕ → Fin 50 → ℝ) (t : Fin 50 → Fin 50 → ℝ) : ℕ → Fin 50 → ℝ
  | 0, j => Real.exp (f 0 j + t bos j)
  | s + 1, j => (∑ i, fwd f t s i * Real.exp (t i j)) * Real.exp (f (s + 1) j)

variable {f : ℕ → Fin 50 → ℝ} {t : Fin 50 → Fin 50 → ℝ}

theorem sum_exp_pos {p : Fin 50 → ℝ} (h : ∀ i, 0 < p i) (j : Fin 50) : 0 < ∑ i, p i * Real.exp (t i j) :=
  sum_pos (fun i _ => mul_pos (h i) (Real.exp_pos _)) ⟨0, mem_univ _⟩

theorem fwd_pos : ∀ s j, 0 < fwd f t s j
  | 0, _ => Real.exp_pos _
  | s + 1, j => mul_pos (sum_exp_pos (fwd_pos s) j) (Real.exp_pos _)

theorem log_start (j : Fin 50) : Real.log (fwd f t 0 j) = f 0 j + t bos j := Real.log_exp _

/-- One word of the recursion in log space, as a log-sum-exp around any shift `M`. -/
theorem log_step (s : ℕ) (j : Fin 50) (M : ℝ) :
    M + Real.log (∑ i, Real.exp (f (s + 1) j + t i j + Real.log (fwd f t s i) - M)) = Real.log (fwd f t (s + 1) j) := by
  have e : ∀ i, Real.exp (f (s + 1) j + t i j + Real.log (fwd f t s i) - M)
      = Real.exp (-M) * (fwd f t s i * Real.exp (t i j) * Real.exp (f (s + 1) j)) := fun i => by
    rw [show f (s + 1) j + t i j + Real.log (fwd f t s i) - M
        = -M + (Real.log (fwd f t s i) + t i j + f (s + 1) j) by ring, Real.exp_add, Real.exp_add, Real.exp_add,
      Real.exp_log (fwd_pos s i)]
  have hp : 0 < fwd f t (s + 1) j := fwd_pos _ _
  rw [show ∑ i, Real.exp (f (s + 1) j + t i j + Real.log (fwd f t s i) - M) = Real.exp (-M) * fwd f t (s + 1) j by
    rw [fwd, sum_mul, mul_sum]; exact sum_congr rfl fun i _ => e i,
    Real.log_mul (Real.exp_ne_zero _) hp.ne', Real.log_exp]
  ring

/-- The logarithm of the sum over all paths, the last transition into the end tag included. -/
def logZ (f : ℕ → Fin 50 → ℝ) (t : Fin 50 → Fin 50 → ℝ) : ℝ := Real.log (∑ i, fwd f t 511 i * Real.exp (t i eos))

/-- The same as a log-sum-exp around any shift `M`. -/
theorem log_finish (M : ℝ) : M + Real.log (∑ i, Real.exp (t i eos + Real.log (fwd f t 511 i) - M)) = logZ f t := by
  have e : ∀ i, Real.exp (t i eos + Real.log (fwd f t 511 i) - M)
      = Real.exp (-M) * (fwd f t 511 i * Real.exp (t i eos)) := fun i => by
    rw [show t i eos + Real.log (fwd f t 511 i) - M
        = -M + (Real.log (fwd f t 511 i) + t i eos) by ring, Real.exp_add, Real.exp_add, Real.exp_log (fwd_pos _ i)]
  rw [show ∑ i, Real.exp (t i eos + Real.log (fwd f t 511 i) - M)
      = Real.exp (-M) * ∑ i, fwd f t 511 i * Real.exp (t i eos) by rw [mul_sum]; exact sum_congr rfl fun i _ => e i,
    Real.log_mul (Real.exp_ne_zero _) (sum_exp_pos (fwd_pos _) eos).ne', Real.log_exp]
  unfold logZ; ring

/-! ## The recursion in scaled ordinary space -/

/-- Row `s` of the features relative to its maximum, exponentiated. -/
def erow (f : ℕ → Fin 50 → ℝ) (s : ℕ) (j : Fin 50) : ℝ := Real.exp (f s j - rmax (f s))

/-- The sum of the row maxima of the first `n` words. -/
def shift (f : ℕ → Fin 50 → ℝ) (n : ℕ) : ℝ := ∑ s ∈ range n, rmax (f s)

/-- `p` and `acc` stand for `fwd f t s`: a positive multiple, the logarithm of the factor known. -/
def Scaled (f : ℕ → Fin 50 → ℝ) (t : Fin 50 → Fin 50 → ℝ) (s : ℕ) (p : Fin 50 → ℝ) (acc : ℝ) : Prop :=
  (∀ j, 0 < p j) ∧ ∀ j, fwd f t s j = p j * Real.exp (acc + shift f (s + 1))

theorem Scaled.start : Scaled f t 0 (fun j => erow f 0 j * Real.exp (t bos j)) 0 := by
  refine ⟨fun j => mul_pos (Real.exp_pos _) (Real.exp_pos _), fun j => ?_⟩
  simp only [fwd, erow, shift, zero_add, range_one, sum_singleton, ← Real.exp_add]
  congr 1; ring

theorem Scaled.step {s : ℕ} {p : Fin 50 → ℝ} {acc : ℝ} (h : Scaled f t s p acc) :
    Scaled f t (s + 1) (fun j => (∑ i, p i * Real.exp (t i j)) * erow f (s + 1) j) acc := by
  refine ⟨fun j => mul_pos (sum_exp_pos h.1 j) (Real.exp_pos _), fun j => ?_⟩
  have e : Real.exp (f (s + 1) j) = erow f (s + 1) j * Real.exp (rmax (f (s + 1))) := by
    rw [erow, ← Real.exp_add]; congr 1; ring
  have e2 : Real.exp (acc + shift f (s + 1 + 1)) = Real.exp (acc + shift f (s + 1)) * Real.exp (rmax (f (s + 1))) := by
    rw [← Real.exp_add, shift, sum_range_succ, shift]; congr 1; ring
  rw [fwd, e, e2, sum_congr rfl fun i _ => by rw [h.2 i, mul_right_comm], ← sum_mul]
  ring

theorem Scaled.renorm {s : ℕ} {p : Fin 50 → ℝ} {acc : ℝ} (h : Scaled f t s p acc) :
    Scaled f t s (fun j => p j * (1 / rmax p)) (acc + Real.log (rmax p)) := by
  have hm := rmax_pos h.1
  refine ⟨fun j => mul_pos (h.1 j) (one_div_pos.mpr hm), fun j => ?_⟩
  rw [h.2 j, show acc + Real.log (rmax p) + shift f (s + 1) = Real.log (rmax p) + (acc + shift f (s + 1)) by ring,
    Real.exp_add (Real.log _), Real.exp_log hm]
  field_simp

theorem Scaled.finish {p : Fin 50 → ℝ} {acc : ℝ} (h : Scaled f t 511 p acc) :
    Real.log (∑ i, p i * Real.exp (t i eos)) + acc + shift f 512 = logZ f t := by
  have e : ∑ i, fwd f t 511 i * Real.exp (t i eos)
      = (∑ i, p i * Real.exp (t i eos)) * Real.exp (acc + shift f 512) := by
    rw [sum_mul]; exact sum_congr rfl fun i _ => by rw [h.2 i, mul_right_comm]
  rw [logZ, e, Real.log_mul (sum_exp_pos h.1 eos).ne' (Real.exp_ne_zero _), Real.log_exp]
  ring

/-! ## The loss -/

/-- The tag before word `s`: the begin tag before the first, otherwise the tag of word `s - 1`. -/
def prev (g : Fin 512 → Fin 50) (s : Fin 512) : Fin 50 := if h : s.val = 0 then bos else g ⟨s.val - 1, by omega⟩

/-- The score of the given tag paths of the sixteen sentences. -/
def gold (f : Fin 16 → ℕ → Fin 50 → ℝ) (t : Fin 50 → Fin 50 → ℝ) (g : Fin 16 → Fin 512 → Fin 50) : ℝ :=
  (∑ s : Fin 512, ∑ b : Fin 16, (f b s (g b s) + t (prev (g b) s) (g b s))) + ∑ b : Fin 16, t (g b 511) eos

/-- The loss: the log-partition functions of the sixteen sentences less the score of their given paths. -/
def loss (f : Fin 16 → ℕ → Fin 50 → ℝ) (t : Fin 50 → Fin 50 → ℝ) (g : Fin 16 → Fin 512 → Fin 50) : ℝ :=
  (∑ b : Fin 16, logZ (f b) t) - gold f t g

end Cert.Crf

end
-- ==== Proof.KernelScore.lean ====
/-
  What the recursion of one kernel block computes over the extended reals, on finite features and transitions: the
  pair it carries stands for the forward sums (`Holds`), word by word, through every rescaling, and its last logarithm
  is the log-partition function less the sum of the row maxima.
-/
module

public import proofs.«01_k».proof.Proof.KernelRun
public import proofs.«01_k».proof.Proof.Math
public import Idealize.ShloMosaic.Lib.Pointwise

@[expose] public section

noncomputable section

namespace Cert.KernelIdeal.Value

open Idealize.ShloMosaic Idealize.SL.Sem
open Cert.KernelIdeal Cert.KernelIdeal.Gen Cert.Crf Idealize.ShloMosaic.Pointwise
open Idealize.ShloMosaic (Ideal)

/-- The word of `-∞`. -/
theorem ofBits_neg_inf : Ideal.ofBits .f32 0xFF800000#32 = (⊥ : EReal) := by
  simp [Ideal.ofBits, Ideal.ieee]

/-- One word: the carried vector times the transition matrix, times the word's stored row. -/
def word (v3 : FVec Ideal S50x50 .f32) (w : FVec Ideal S1x16x50 .f32) (v : FVec Ideal S16x50 .f32) : FVec Ideal S16x50 .f32 :=
  mulf (matmul dot_S16x50_S50x50_S16x50_1_0_0_1_n_n none v v3 (constant S16x50 .f32 0x00000000#32))
    (shapeCast S16x50 w shapeCasts_S1x16x50_S16x50)

/-- The vector after word 0. -/
def first (v3 : FVec Ideal S50x50 .f32) (w : FVec Ideal S1x16x50 .f32) : FVec Ideal S16x50 .f32 :=
  mulf (shapeCast S16x50 w shapeCasts_S1x16x50_S16x50)
    (broadcastTo S16x50 (extractStridedSlice S1x50 ![48, 0] v3 slices_S50x50_o48_0_S1x50) broadcasts_S1x50_S16x50)

/-- The row maxima of the carried vector, -/
def rowMax (v : FVec Ideal S16x50 .f32) : FVec Ideal S16x1 .f32 :=
  shapeCast S16x1 (multiReduction .maximumf [1] S16 v 0xFF800000#32 reduces_S16x50_S16 (.inl rfl) rfl) shapeCasts_S16_S16x1

/-- the vector divided by them, -/
def scaled (v : FVec Ideal S16x50 .f32) : FVec Ideal S16x50 .f32 :=
  mulf v (broadcastTo S16x50 (divf (broadcast S16x1 (Scalar.ofBits (F := Ideal) .f32 0x3F800000#32)) (rowMax v)) broadcasts_S16x1_S16x50)

/-- and their logarithms added to the scale. -/
def scaleOf (a : FVec Ideal S16x1 .f32) (v : FVec Ideal S16x50 .f32) : FVec Ideal S16x1 .f32 := addf a (log (rowMax v))

/-- Words `n + 1 … n + 4` and `n + 1 … n + 8`. -/
def words4 (v3 : FVec Ideal S50x50 .f32) (X : FVec Ideal S512x16x50 .f32) (n : ℕ) (v : FVec Ideal S16x50 .f32) : FVec Ideal S16x50 .f32 :=
  word v3 (rowOf X (n + 4)) (word v3 (rowOf X (n + 3)) (word v3 (rowOf X (n + 2)) (word v3 (rowOf X (n + 1)) v)))

theorem start_eq (v3 : FVec Ideal S50x50 .f32) (X : FVec Ideal S512x16x50 .f32) :
    start v3 X = (scaled (word v3 (rowOf X 7) (word v3 (rowOf X 6) (word v3 (rowOf X 5) (words4 v3 X 0 (first v3 (rowOf X 0)))))),
      scaleOf k0_pay19 (word v3 (rowOf X 7) (word v3 (rowOf X 6) (word v3 (rowOf X 5) (words4 v3 X 0 (first v3 (rowOf X 0))))))) :=
  rfl

theorem trip_words (v3 : FVec Ideal S50x50 .f32) (X : FVec Ideal S512x16x50 .f32) (k : ℕ) (a : FVec Ideal S16x50 .f32 × FVec Ideal S16x1 .f32) :
    trip v3 X k a = (scaled (words4 v3 X (8 * k + 11) (words4 v3 X (8 * k + 7) a.1)),
      scaleOf a.2 (words4 v3 X (8 * k + 11) (words4 v3 X (8 * k + 7) a.1))) :=
  rfl

theorem word_apply (v3 : FVec Ideal S50x50 .f32) (X : FVec Ideal S512x16x50 .f32) (n : ℕ) (v : FVec Ideal S16x50 .f32) (b : Fin 16) (j : Fin 50) :
    word v3 (rowOf X n) v (ix2 b j)
      = (∑ i, v (ix2 b i) * v3 (ix2 i j)) * X (ix3 (⟨n % 512, Nat.mod_lt _ (by decide)⟩ : Fin 512) b j) := by
  pointwise [word, rowOf]

theorem first_apply (v3 : FVec Ideal S50x50 .f32) (X : FVec Ideal S512x16x50 .f32) (b : Fin 16) (j : Fin 50) :
    first v3 (rowOf X 0) (ix2 b j) = X (ix3 (0 : Fin 512) b j) * v3 (ix2 (48 : Fin 50) j) := by
  pointwise [first, rowOf]

theorem scaled_apply (v : FVec Ideal S16x50 .f32) (b : Fin 16) (j : Fin 50) :
    scaled v (ix2 b j)
      = v (ix2 b j) * Ideal.div 1 (Finset.univ.fold max (Ideal.ofBits .f32 0xFF800000#32) fun k => v (ix2 b k)) := by
  pointwise [scaled, rowMax]

theorem scaleOf_apply (a : FVec Ideal S16x1 .f32) (v : FVec Ideal S16x50 .f32) (b : Fin 16) :
    scaleOf a v (ix2 b (0 : Fin 1))
      = a (ix2 b (0 : Fin 1)) + Ideal.log (Finset.univ.fold max (Ideal.ofBits .f32 0xFF800000#32) fun k => v (ix2 b k)) := by
  pointwise [scaleOf, rowMax]

section
variable (f : Fin 16 → ℕ → Fin 50 → ℝ) (t : Fin 50 → Fin 50 → ℝ)

/-- The pair `v`, `a` stands for the forward sums of word `n` in all sixteen sentences. -/
def Holds (n : ℕ) (v : FVec Ideal S16x50 .f32) (a : FVec Ideal S16x1 .f32) : Prop :=
  ∃ (p : Fin 16 → Fin 50 → ℝ) (acc : Fin 16 → ℝ), (∀ b j, v (ix2 b j) = (p b j : EReal))
    ∧ (∀ b, a (ix2 b (0 : Fin 1)) = (acc b : EReal)) ∧ ∀ b, Scaled (f b) t n (p b) (acc b)

variable {f t}
variable {v3 : FVec Ideal S50x50 .f32} {X : FVec Ideal S512x16x50 .f32}

theorem holds_first (h3 : ∀ i j, v3 (ix2 i j) = (Real.exp (t i j) : EReal))
    (hX : ∀ (s : Fin 512) b j, X (ix3 s b j) = (erow (f b) s j : EReal)) :
    Holds f t 0 (first v3 (rowOf X 0)) k0_pay19 := by
  refine ⟨fun b j => erow (f b) 0 j * Real.exp (t bos j), fun _ => 0, fun b j => ?_, fun b => ?_, fun b => Scaled.start⟩
  · rw [first_apply, hX, h3, EReal.coe_mul]; rfl
  · show Ideal.ofBits .f32 0x00000000#32 = _
    rw [Ideal.ofBits_zero_f32]; rfl

theorem holds_word (h3 : ∀ i j, v3 (ix2 i j) = (Real.exp (t i j) : EReal))
    (hX : ∀ (s : Fin 512) b j, X (ix3 s b j) = (erow (f b) s j : EReal)) {n : ℕ} (hn : n + 1 < 512)
    {v : FVec Ideal S16x50 .f32} {a : FVec Ideal S16x1 .f32} (h : Holds f t n v a) :
    Holds f t (n + 1) (word v3 (rowOf X (n + 1)) v) a := by
  obtain ⟨p, acc, hp, ha, hs⟩ := h
  refine ⟨fun b j => (∑ i, p b i * Real.exp (t i j)) * erow (f b) (n + 1) j, acc, fun b j => ?_, ha, fun b => (hs b).step⟩
  rw [word_apply, hX]
  simp only [hp, h3, ← EReal.coe_mul, sum_coe, Nat.mod_eq_of_lt hn]

theorem holds_words4 (h3 : ∀ i j, v3 (ix2 i j) = (Real.exp (t i j) : EReal))
    (hX : ∀ (s : Fin 512) b j, X (ix3 s b j) = (erow (f b) s j : EReal)) {n : ℕ} (hn : n + 4 < 512)
    {v : FVec Ideal S16x50 .f32} {a : FVec Ideal S16x1 .f32} (h : Holds f t n v a) :
    Holds f t (n + 4) (words4 v3 X n v) a :=
  holds_word h3 hX hn (holds_word h3 hX (by omega) (holds_word h3 hX (by omega) (holds_word h3 hX (by omega) h)))

theorem holds_scaled {n : ℕ} {v : FVec Ideal S16x50 .f32} {a : FVec Ideal S16x1 .f32} (h : Holds f t n v a) :
    Holds f t n (scaled v) (scaleOf a v) := by
  obtain ⟨p, acc, hp, ha, hs⟩ := h
  have hm : ∀ b, Finset.univ.fold max (Ideal.ofBits .f32 0xFF800000#32) (fun k => v (ix2 b k)) = (rmax (p b) : EReal) := fun b => by
    simp only [hp, ofBits_neg_inf]; exact fold_max_coe _
  have hpos : ∀ b, 0 < rmax (p b) := fun b => rmax_pos (hs b).1
  refine ⟨fun b j => p b j * (1 / rmax (p b)), fun b => acc b + Real.log (rmax (p b)), fun b j => ?_, fun b => ?_,
    fun b => (hs b).renorm⟩
  · rw [scaled_apply, hm, hp, EReal.coe_mul]
    congr 1
    have : (rmax (p b) : EReal) ≠ 0 := by exact_mod_cast (hpos b).ne'
    unfold Ideal.div
    rw [if_neg this, one_mul, one_div, EReal.coe_inv]
  · rw [scaleOf_apply, hm, ha, EReal.coe_add]
    congr 1
    show (if rmax (p b) ≤ 0 then (⊥ : EReal) else (Real.log (rmax (p b)) : EReal)) = _
    rw [if_neg (not_le.mpr (hpos b))]

/-- Before pass `k` of the loop the pair stands for word `8k + 7`. -/
theorem holds_state (h3 : ∀ i j, v3 (ix2 i j) = (Real.exp (t i j) : EReal))
    (hX : ∀ (s : Fin 512) b j, X (ix3 s b j) = (erow (f b) s j : EReal)) :
    ∀ k, k < 64 → Holds f t (8 * k + 7) (state v3 X k).1 (state v3 X k).2
  | 0, _ => by
    show Holds f t 7 (start v3 X).1 (start v3 X).2
    rw [start_eq]
    exact holds_scaled (holds_word h3 hX (by decide) (holds_word h3 hX (by decide) (holds_word h3 hX (by decide)
      (holds_words4 h3 hX (by decide) (holds_first h3 hX)))))
  | k + 1, hk => by
    show Holds f t (8 * (k + 1) + 7) (trip v3 X k (state v3 X k)).1 (trip v3 X k (state v3 X k)).2
    rw [trip_words, show 8 * (k + 1) + 7 = 8 * k + 11 + 4 by ring]
    exact holds_scaled (holds_words4 h3 hX (by omega) (holds_words4 h3 hX (by omega) (holds_state h3 hX k (by omega))))

theorem pay9_apply (c : FVec Ideal S16x50 .f32) (d : FVec Ideal S16x1 .f32) (a b : Ideal .f32) :
    k0_pay9 (F := Ideal) v3 a b c d (ix2 (0 : Fin 1) (0 : Fin 1))
      = ∑ x : Fin 16, ∑ y : Fin 1, (Ideal.log (∑ k : Fin 50, c (ix2 x k) * v3 (ix2 k (49 : Fin 50))) + d (ix2 x (0 : Fin 1))) + b - a := by
  pointwise [k0_pay9]

theorem stored_apply (x0 : FVec Ideal S512x16x50 .f32) (s : Fin 512) (b : Fin 16) (j : Fin 50) :
    stored x0 (ix3 s b j)
      = Ideal.exp (x0 (ix3 s b j) - Finset.univ.fold max (Ideal.ofBits .f32 0xFF800000#32) fun k => x0 (ix3 s b k)) := by
  pointwise [stored, k0_pay17, k0_pay16, k0_pay15, k0_pay12]

theorem scaleSum_apply (x0 : FVec Ideal S512x16x50 .f32) :
    k0_pay18 (F := Ideal) (k0_pay15 (F := Ideal) x0)
      = ∑ s : Fin 512, ∑ b : Fin 16, Finset.univ.fold max (Ideal.ofBits .f32 0xFF800000#32) fun k : Fin 50 => x0 (ix3 s b k) := by
  pointwise [k0_pay18, k0_pay15, k0_pay12]

/-- What the block stores, its gold score `γ` given: the log-partition functions less `γ`. -/
theorem score (x0 : FVec Ideal S512x16x50 .f32) (x3 : FVec Ideal S50x50 .f32) (γ : ℝ)
    (h0 : ∀ s b j, x0 (ix3 s b j) = (f b s.val j : EReal)) (ht : ∀ i j, x3 (ix2 i j) = (t i j : EReal)) :
    k0_pay9 (F := Ideal) (k0_pay13 x3) (γ : EReal) (k0_pay18 (k0_pay15 x0)) (state (k0_pay13 x3) (stored x0) 63).1
        (state (k0_pay13 x3) (stored x0) 63).2 (ix2 (0 : Fin 1) (0 : Fin 1))
      = ((∑ b, logZ (f b) t - γ : ℝ) : EReal) := by
  have h3 : ∀ i j, k0_pay13 (F := Ideal) x3 (ix2 i j) = (Real.exp (t i j) : EReal) := fun i j => by
    show Ideal.exp (x3 (ix2 i j)) = _
    rw [ht]; rfl
  have hm : ∀ (s : Fin 512) b, Finset.univ.fold max (Ideal.ofBits .f32 0xFF800000#32) (fun k : Fin 50 => x0 (ix3 s b k))
      = (rmax (f b s) : EReal) := fun s b => by
    simp only [h0, ofBits_neg_inf]; exact fold_max_coe _
  have hX : ∀ (s : Fin 512) b j, stored x0 (ix3 s b j) = (erow (f b) s j : EReal) := fun s b j => by
    rw [stored_apply, hm, h0, ← EReal.coe_sub]; rfl
  obtain ⟨p, acc, hp, ha, hs⟩ := holds_state h3 hX 63 (by decide)
  rw [pay9_apply, scaleSum_apply]
  have hlog : ∀ b, Ideal.log ((∑ i, p b i * Real.exp (t i eos) : ℝ) : EReal)
      = (Real.log (∑ i, p b i * Real.exp (t i eos)) : EReal) := fun b => by
    show (if (∑ i, p b i * Real.exp (t i eos)) ≤ 0 then (⊥ : EReal) else _) = _
    rw [if_neg (not_le.mpr (sum_exp_pos (hs b).1 eos))]
  have e : ∀ b : Fin 16, Ideal.log (∑ k : Fin 50, (state (k0_pay13 x3) (stored x0) 63).1 (ix2 b k)
        * k0_pay13 (F := Ideal) x3 (ix2 k (49 : Fin 50))) + (state (k0_pay13 x3) (stored x0) 63).2 (ix2 b (0 : Fin 1))
      = ((Real.log (∑ i, p b i * Real.exp (t i eos)) + acc b : ℝ) : EReal) := fun b => by
    simp only [hp, h3, ha, ← EReal.coe_mul, sum_coe]
    rw [EReal.coe_add, ← hlog]
  simp only [e, hm, sum_coe, ← EReal.coe_add, ← EReal.coe_sub, Fin.sum_univ_one]
  congr 2
  rw [Finset.sum_comm, ← Finset.sum_add_distrib]
  refine Finset.sum_congr rfl fun b _ => ?_
  rw [← (hs b).finish, shift, Finset.sum_range]
end

end Cert.KernelIdeal.Value

end
-- ==== Proof.Inputs.lean ====
/-
  The precondition read back: finite features and transitions are real numbers, every mask bit is set, and every tag
  is a number below 50.
-/
module

public import proofs.«01_k».proof.Defs
public import proofs.«01_k».proof.Proof.KernelScore
public import proofs.«01_k».proof.Proof.Gen.Pre_unmasked_finite_tags
public import Idealize.ShloMosaic.Lib.ReduceAll
public import Idealize.ShloMosaic.Lib.Affine

@[expose] public section

noncomputable section

namespace Cert.Crf

open Idealize.ShloMosaic Idealize.SL.Sem Idealize.ShloMosaic.Pointwise
open Idealize.ShloMosaic (Ideal)
open Cert.Pre_unmasked_finite_tags

theorem ofBits_pos_inf : Ideal.ofBits .f32 0x7F800000#32 = (⊤ : EReal) := by
  simp [Ideal.ofBits, Ideal.ieee]

/-- A number whose absolute value compares below `+∞` is real. -/
theorem real_of_abs_lt (x : EReal) (h : FloatOps.cmpf (F := Ideal) (φ := .f32) .olt (FloatOps.absf (F := Ideal) (φ := .f32) x) (Ideal.ofBits .f32 0x7F800000#32) = 1#1) :
    x = (x.toReal : EReal) := by
  rw [ofBits_pos_inf] at h
  have h' : max x (-x) < (⊤ : EReal) := by
    by_contra hc
    have : FloatOps.cmpf (F := Ideal) (φ := .f32) .olt (FloatOps.absf (F := Ideal) (φ := .f32) x) (⊤ : EReal) = 0#1 := by
      show Ideal.cmp .olt (max x (-x)) ⊤ = 0#1
      simp [Ideal.cmp, hc]
    rw [this] at h
    exact absurd h (by decide)
  rw [max_lt_iff] at h'
  refine (EReal.coe_toReal (ne_of_lt h'.1) fun hb => ?_).symm
  subst hb
  exact absurd h'.2 (by simp)

theorem inputs_of_pre (a0 : FVec Ideal S16x512x50 .f32) (a1 : IVec S16x512 1) (a2 : IVec S16x512 32) (a3 : FVec Ideal S50x50 .f32)
    (h : fn (F := Ideal) a0 a1 a2 a3 = fun _ => 1#1) :
    ∃ (f : Fin 16 → ℕ → Fin 50 → ℝ) (t : Fin 50 → Fin 50 → ℝ) (g : Fin 16 → Fin 512 → Fin 50),
      (∀ b (s : Fin 512) j, a0 (ix3 b s j) = (f b s.val j : EReal)) ∧ (∀ b s, a1 (ix2 b s) = 1#1)
        ∧ (∀ b s, a2 (ix2 b s) = BitVec.ofNat 32 (g b s).val) ∧ ∀ i j, a3 (ix2 i j) = (t i j : EReal) := by
  have h0 := congrFun h ix0
  unfold fn fn_part1 at h0
  dsimp only at h0
  simp only [andi, IntOp.andi_eq_one] at h0
  obtain ⟨⟨⟨hm, hf⟩, hy⟩, ht⟩ := h0
  have hm' := Host.reduce_andi_all _ _ _ _ _ hm
  have hf' := Host.reduce_andi_all _ _ _ _ _ hf
  have hy' := Host.reduce_andi_all _ _ _ _ _ hy
  have ht' := Host.reduce_andi_all _ _ _ _ _ ht
  have hg : ∀ b s, (a2 (ix2 b s)).toNat < 50 ∧ a2 (ix2 b s) = BitVec.ofNat 32 ((a2 (ix2 b s)).toNat) := fun b s => by
    have := IntOp.andi_eq_one.mp (hy' (ix2 b s))
    have h1 : (0 : ℤ) ≤ (a2 (ix2 b s)).toInt := IntOp.cmpi_sge.mp this.1
    have h2 : (a2 (ix2 b s)).toInt < 50 := IntOp.cmpi_slt.mp this.2
    refine ⟨?_, by simp⟩
    have h3 := BitVec.toInt_eq_toNat_cond (a2 (ix2 b s))
    have h4 := (a2 (ix2 b s)).isLt
    split at h3 <;> omega
  refine ⟨fun b s j => (a0 (ix3 b (⟨s % 512, Nat.mod_lt _ (by decide)⟩ : Fin 512) j)).toReal, fun i j => (a3 (ix2 i j)).toReal,
    fun b s => ⟨(a2 (ix2 b s)).toNat, (hg b s).1⟩, fun b s j => ?_, fun b s => hm' _, fun b s => (hg b s).2, fun i j => ?_⟩
  · have : (⟨s.val % 512, Nat.mod_lt _ (by decide)⟩ : Fin 512) = s := Fin.ext (Nat.mod_eq_of_lt s.isLt)
    simp only [this]
    exact real_of_abs_lt _ (hf' (ix3 b s j))
  · exact real_of_abs_lt _ (ht' (ix2 i j))

end Cert.Crf

end
-- ==== Proof.KernelGold.lean ====
/-
  The gold score of one kernel block over the extended reals: with the tags in one-hot form, a sum over the 50 tags
  of a product with a one-hot row is the entry at the tag, so the block's three sums are the path scores.
-/
module

public import proofs.«01_k».proof.Proof.KernelScore

@[expose] public section

noncomputable section

namespace Cert.KernelIdeal.Value

open Idealize.ShloMosaic Idealize.SL.Sem
open Cert.KernelIdeal Cert.KernelIdeal.Gen Cert.Crf Idealize.ShloMosaic.Pointwise
open Idealize.ShloMosaic (Ideal)

/-- A comparison of a tag with a lane number, as a number: one at the tag, zero elsewhere. -/
theorem oneHot (a j : Fin 50) :
    (FloatOps.sitofp .f32 (BitVec.setWidth 32 (IntOp.cmpi .eq (BitVec.ofNat 32 a.val) (BitVec.ofNat 32 j.val))) : Ideal .f32)
      = if j = a then (1 : EReal) else 0 := by
  show (((BitVec.setWidth 32 (IntOp.cmpi .eq (BitVec.ofNat 32 a.val) (BitVec.ofNat 32 j.val))).toInt : ℝ) : EReal) = _
  have h : (BitVec.setWidth 32 (IntOp.cmpi .eq (BitVec.ofNat 32 a.val) (BitVec.ofNat 32 j.val))).toInt = if j = a then 1 else 0 := by
    revert a j; decide +kernel
  rw [h]
  split <;> simp

/-- The 8192 rows are the 512 words of 16 sentences. -/
theorem sum_rows (G : Fin 512 → Fin 16 → EReal) :
    ∑ x : Fin 8192, G ⟨x.val / 16, by omega⟩ ⟨x.val % 16, by omega⟩ = ∑ s : Fin 512, ∑ b : Fin 16, G s b := by
  rw [← Fintype.sum_prod_type']
  exact Fintype.sum_equiv (finProdFinEquiv (m := 512) (n := 16)).symm _ (fun q : Fin 512 × Fin 16 => G q.1 q.2) fun x => rfl

theorem pay14_apply (x0 : FVec Ideal S512x16x50 .f32) (x3 : FVec Ideal S50x50 .f32) (c d : IVec S512x16 32) :
    k0_pay14 (F := Ideal) x0 x3 c d
      = ∑ x : Fin 8192, ∑ j : Fin 50, x0 (ix3 (⟨x.val / 16, by omega⟩ : Fin 512) (⟨x.val % 16, by omega⟩ : Fin 16) j)
          * FloatOps.sitofp .f32 (BitVec.setWidth 32 (IntOp.cmpi .eq (c (ix2 (⟨x.val / 16, by omega⟩ : Fin 512) (⟨x.val % 16, by omega⟩ : Fin 16))) (BitVec.ofNat 32 j.val)))
        + ∑ x : Fin 8192, ∑ j : Fin 50, (∑ i : Fin 50,
            FloatOps.sitofp .f32 (BitVec.setWidth 32 (IntOp.cmpi .eq (d (ix2 (⟨x.val / 16, by omega⟩ : Fin 512) (⟨x.val % 16, by omega⟩ : Fin 16))) (BitVec.ofNat 32 i.val)))
              * x3 (ix2 i j))
          * FloatOps.sitofp .f32 (BitVec.setWidth 32 (IntOp.cmpi .eq (c (ix2 (⟨x.val / 16, by omega⟩ : Fin 512) (⟨x.val % 16, by omega⟩ : Fin 16))) (BitVec.ofNat 32 j.val)))
        + ∑ b : Fin 16, ∑ i : Fin 50,
            FloatOps.sitofp .f32 (BitVec.setWidth 32 (IntOp.cmpi .eq (c (ix2 (511 : Fin 512) b)) (BitVec.ofNat 32 i.val)))
              * x3 (ix2 i (49 : Fin 50)) := by
  pointwise [k0_pay14, k0_pay12]
  simp only [Fin.sum_univ_one]

/-- The block's gold score, on finite data and tags in range. -/
theorem gold_eq (f : Fin 16 → ℕ → Fin 50 → ℝ) (t : Fin 50 → Fin 50 → ℝ) (g : Fin 16 → Fin 512 → Fin 50)
    (x0 : FVec Ideal S512x16x50 .f32) (x3 : FVec Ideal S50x50 .f32) (c d : IVec S512x16 32)
    (h0 : ∀ s b j, x0 (ix3 s b j) = (f b s.val j : EReal)) (ht : ∀ i j, x3 (ix2 i j) = (t i j : EReal))
    (hc : ∀ s b, c (ix2 s b) = BitVec.ofNat 32 (g b s).val) (hd : ∀ s b, d (ix2 s b) = BitVec.ofNat 32 (prev (g b) s).val) :
    k0_pay14 (F := Ideal) x0 x3 c d = (gold f t g : EReal) := by
  have sel (a : Fin 50) (x : Fin 50 → EReal) : ∑ j, x j * (if j = a then (1 : EReal) else 0) = x a := by
    simp [mul_ite]
  have sel' (a : Fin 50) (x : Fin 50 → EReal) : ∑ j, (if j = a then (1 : EReal) else 0) * x j = x a := by
    simp [ite_mul]
  rw [pay14_apply]
  simp only [hc, hd, oneHot, sel, sel', h0, ht]
  rw [sum_rows fun s b => (f b s.val (g b s) : EReal), sum_rows fun s b => (t (prev (g b) s) (g b s) : EReal)]
  simp only [sum_coe, ← EReal.coe_add]
  rw [← Finset.sum_add_distrib, gold]
  simp only [← Finset.sum_add_distrib]

/-- What one block stores, on finite data and tags in range: the loss. -/
theorem block_eq (f : Fin 16 → ℕ → Fin 50 → ℝ) (t : Fin 50 → Fin 50 → ℝ) (g : Fin 16 → Fin 512 → Fin 50)
    (x0 : FVec Ideal S512x16x50 .f32) (x3 : FVec Ideal S50x50 .f32) (c d : IVec S512x16 32)
    (h0 : ∀ s b j, x0 (ix3 s b j) = (f b s.val j : EReal)) (ht : ∀ i j, x3 (ix2 i j) = (t i j : EReal))
    (hc : ∀ s b, c (ix2 s b) = BitVec.ofNat 32 (g b s).val) (hd : ∀ s b, d (ix2 s b) = BitVec.ofNat 32 (prev (g b) s).val) :
    block x0 c d x3 (ix2 (0 : Fin 1) (0 : Fin 1)) = (loss f t g : EReal) := by
  unfold block
  rw [gold_eq f t g x0 x3 c d h0 ht hc hd]
  exact score x0 x3 (gold f t g) h0 ht

end Cert.KernelIdeal.Value

end
-- ==== Proof.KernelArray.lean ====
/-
  What the kernel program's arrays hold: the block's four inputs are the features and the tags with their first two
  axes exchanged, the previous tags (the begin tag before the first word), and the transitions; the result is the one
  entry of the block's output.
-/
module

public import proofs.«01_k».proof.Proof.KernelGold
public import Idealize.ShloMosaic.Lib.Pipeline.Value
public import Idealize.ShloMosaic.Lib.StableHlo.RunClose

@[expose] public section

noncomputable section

namespace Cert.KernelIdeal.Value

open Idealize.ShloMosaic Idealize.ShloMosaic.TcCoe Idealize.SL.Sem
open Cert.KernelIdeal Cert.KernelIdeal.Gen Cert.Crf Idealize.ShloMosaic.Pointwise
open Idealize.ShloMosaic.Pipeline (Dat)
open Idealize.ShloMosaic (Ideal)

variable {F : FTy → Type} [FloatOps F]
variable (m : (ℓ : Loc nD τ sig) → Buf (Elt F) ℓ) (ρ : Dev nD → PrngReg)

/-- The four blocks are the four arrays. -/
theorem iblk_0 (c : Dev nD) (t : Fin cfg0.N) : (iblk m c 0 t : FVec F S512x16x50 .f32) = V m c main_v0 :=
  Memref.read_access_unit_zero (Elt F) main_v0 (funext fun a => by fin_cases a <;> rfl) (fun a => by fin_cases a <;> exact (Nat.zero_add _).le) _
theorem iblk_1 (c : Dev nD) (t : Fin cfg0.N) : (iblk m c 1 t : IVec S512x16 32) = V m c main_v4 :=
  Memref.read_access_unit_zero (Elt F) main_v4 (funext fun a => by fin_cases a <;> rfl) (fun a => by fin_cases a <;> exact (Nat.zero_add _).le) _
theorem iblk_2 (c : Dev nD) (t : Fin cfg0.N) : (iblk m c 2 t : IVec S512x16 32) = V m c main_v5 :=
  Memref.read_access_unit_zero (Elt F) main_v5 (funext fun a => by fin_cases a <;> rfl) (fun a => by fin_cases a <;> exact (Nat.zero_add _).le) _
theorem iblk_3 (c : Dev nD) (t : Fin cfg0.N) : (iblk m c 3 t : FVec F S50x50 .f32) = V m c main_arg3 :=
  Memref.read_access_unit_zero (Elt F) main_arg3 (funext fun a => by fin_cases a <;> rfl) (fun a => by fin_cases a <;> exact (Nat.zero_add _).le) _

/-- The output array at the end. -/
abbrev out (c : Dev nD) : Buf (Elt F) ((c : Thread nD τ).loc main_v6) :=
  block (V m c main_v0) (V m c main_v4) (V m c main_v5) (V m c main_arg3)

theorem flushed_eq (c : Dev nD) (t : Fin cfg0.N) :
    (dats m 0 c).flushed 4 t = ((cfg0.win 4).blk t).view.read (Elt F) (out m c) := by
  show (cfg0.win 4).cut (grid0.coords t) ((dats m 0 c).after 4 t) = _
  rw [after0_4]
  unfold outsAt0
  rw [out_eq, iblk_0, iblk_1, iblk_2, iblk_3]
  exact (Memref.read_access_unit_zero (Elt F) main_v6 (funext fun a => by fin_cases a <;> rfl) (fun a => by fin_cases a <;> exact (Nat.zero_add _).le) (out m c)).symm

theorem final_out (c : Dev nD) : (dats m 0 c).arrAt 4 cfg0.N = out m c :=
  (dats m 0 c).arrAt_eq_of_cover 4 (out m c) (fun t _ => flushed_eq m c t) fun i =>
    ⟨t0_0, flush0_4 t0_0, by
      show i ∈ ((View.whole main_v6).slice (win0_4.rect t0_0)).set
      rw [View.set_slice_whole, Rect.mem_set_unit]
      intro a
      have h0 : (i 0 : Nat) < 1 := (i 0).isLt
      have h1 : (i 1 : Nat) < 1 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1; omega⟩

/-- The result at the end: the output array's one entry. -/
theorem W_main_v7 (c : Dev nD) :
    Pipeline.afterTail₀ cfgs (dats m) 0 (V0 m) [hostOps1] c main_v7 = shapeCast S_ (out m c) shapeCasts_S1x1_S_ := by
  unfold Pipeline.afterTail₀
  rw [← final_out]
  exact congrArg (fun x => shapeCast S_ x shapeCasts_S1x1_S_)
    (Pipeline.withArrays_arr spec0 (by decide) c (V0 m c) (fun w => (dats m 0 c).arrAt w cfg0.N) 4)

theorem run : θ_run defs (onTc (τ := τ) (main (F := F))) ⟨m, fun _ => 0, ρ⟩ fun r => ∀ c : Dev nD,
      r.2.mem ((c : Thread nD τ).loc main_v7) = shapeCast S_ (out m c) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).2 main_v7 (Pipeline.mem_restRefs_of main_v7 (by decide) (by decide))).trans
      (W_main_v7 m c), h.2 c⟩)
    (θ_run_and (run_main m ρ) (unchanged m ρ))

/-! ## The input arrays -/

theorem v0_eq (c : Dev nD) : (V m c main_v0 : FVec F S512x16x50 .f32)
    = transpose S512x16x50 [1, 0, 2] (m ((c : Thread nD τ).loc main_arg0) : FVec F S16x512x50 .f32) transposes_S16x512x50_S512x16x50_1_0_2 := rfl

theorem v4_eq (c : Dev nD) : (V m c main_v4 : IVec S512x16 32)
    = transpose S512x16 [1, 0] (m ((c : Thread nD τ).loc main_arg2) : IVec S16x512 32) transposes_S16x512_S512x16_1_0 := rfl

theorem v5_eq (c : Dev nD) : (V m c main_v5 : IVec S512x16 32)
    = transpose S512x16 [1, 0] (concatenate S16x512 1
        [⟨S16x1, broadcastInDim S16x1 ![] bcast_S_S16x1 (constantI S_ 32 48#32)⟩,
          ⟨S16x511, extractStridedSlice S16x511 ![0, 0] (m ((c : Thread nD τ).loc main_arg2) : IVec S16x512 32) slices_S16x512_S16x511_0_0⟩]
        concatenates_S16x1_S16x511_S16x512_d1) transposes_S16x512_S512x16_1_0 := rfl

/-- The previous tags: the begin tag, then the tags of all words but the last. -/
theorem prevTags_apply (y : IVec S16x512 32) (g : Fin 16 → Fin 512 → Fin 50)
    (h2 : ∀ b s, y (ix2 b s) = BitVec.ofNat 32 (g b s).val) (b : Fin 16) (s : Fin 512) :
    concatenate S16x512 1 [⟨S16x1, broadcastInDim S16x1 ![] bcast_S_S16x1 (constantI S_ 32 48#32)⟩,
          ⟨S16x511, extractStridedSlice S16x511 ![0, 0] y slices_S16x512_S16x511_0_0⟩]
        concatenates_S16x1_S16x511_S16x512_d1 (ix2 b s) = BitVec.ofNat 32 (prev (g b) s).val := by
  by_cases h : s.val = 0
  · rw [concatenate_pair_apply_left (1 : Fin S16x512.rank) _ _ concatenates_S16x1_S16x511_S16x512_d1 (ix2 b s) rfl (ix2 b (0 : Fin 1))
      (fun a => by match a with | ⟨0, _⟩ => rfl | ⟨1, _⟩ => exact h.symm)]
    simp only [prev, h, dif_pos]
    rfl
  · rw [concatenate_pair_apply_right (1 : Fin S16x512.rank) _ _ concatenates_S16x1_S16x511_S16x512_d1 (ix2 b s) rfl rfl
      (ix2 b (⟨s.val - 1, by omega⟩ : Fin 511))
      (fun a ha => by match a with | ⟨0, _⟩ => rfl | ⟨1, _⟩ => exact absurd rfl ha)
      (by show s.val - 1 + 1 = s.val; omega)]
    have e : extractStridedSlice S16x511 ![0, 0] y slices_S16x512_S16x511_0_0 (ix2 b (⟨s.val - 1, by omega⟩ : Fin 511))
        = y (ix2 b (⟨s.val - 1, by omega⟩ : Fin 512)) := by
      pointwise
    rw [e, h2, prev, dif_neg h]

/-- The result over the extended reals, on finite features and transitions and tags in range: the loss. -/
theorem result_eq (m : (ℓ : Loc nD τ sig) → Buf (Elt Ideal) ℓ) (c : Dev nD)
    (f : Fin 16 → ℕ → Fin 50 → ℝ) (t : Fin 50 → Fin 50 → ℝ) (g : Fin 16 → Fin 512 → Fin 50)
    (h0 : ∀ b s j, (m ((c : Thread nD τ).loc main_arg0) : FVec Ideal S16x512x50 .f32) (ix3 b s j) = (f b s.val j : EReal))
    (h2 : ∀ b s, (m ((c : Thread nD τ).loc main_arg2) : IVec S16x512 32) (ix2 b s) = BitVec.ofNat 32 (g b s).val)
    (h3 : ∀ i j, (m ((c : Thread nD τ).loc main_arg3) : FVec Ideal S50x50 .f32) (ix2 i j) = (t i j : EReal)) :
    (shapeCast S_ (out m c) shapeCasts_S1x1_S_ : FVec Ideal S_ .f32) = fun _ => (loss f t g : EReal) := by
  funext i
  obtain rfl : i = ix0 := funext fun a => a.elim0
  have e : (shapeCast S_ (out m c) shapeCasts_S1x1_S_ : FVec Ideal S_ .f32) ix0 = out m c (ix2 (0 : Fin 1) (0 : Fin 1)) := by
    generalize out m c = o
    pointwise
  rw [e]
  refine block_eq f t g _ _ _ _ (fun s b j => ?_) (fun i j => ?_) (fun s b => ?_) (fun s b => ?_)
  · rw [v0_eq, ← h0]
    pointwise
  · rw [V_main_arg3, ← h3]
  · rw [v4_eq, ← h2]
    pointwise
  · rw [v5_eq]
    refine Eq.trans ?_ (prevTags_apply _ g h2 b s)
    pointwise

end Cert.KernelIdeal.Value

end
-- ==== Proof.RefRun.lean ====
/-
  What the reference program's run leaves in its result, as terms of its own operations: the score of the given path
  (`goldOf`), the loop's start and its two carried inputs, and the last line. The loop leaves everything it does not
  carry as it was.
-/
module

public import proofs.«01_k».proof.Proof.Gen.ReferenceIdeal.Run
public import Idealize.ShloMosaic.Lib.StableHlo.RunClose

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Idealize.ShloMosaic.StableHlo

variable {F : FTy → Type} [FloatOps F]

/-- `scores[s, b, i, j] = features[b, s, j] + transitions[i, j]`. -/
def scores (f : FVec F S16x512x50 .f32) (t : FVec F S50x50 .f32) : FVec F S512x16x50x50 .f32 :=
  addf (broadcastInDim S512x16x50x50 ![0, 1, 2, 3] bcast_S512x16x1x50_S512x16x50x50_0_1_2_3
      (broadcastInDim S512x16x1x50 ![0, 1, 3] bcast_S512x16x50_S512x16x1x50_0_1_3
        (transpose S512x16x50 [1, 0, 2] f transposes_S16x512x50_S512x16x50_1_0_2)))
    (broadcastInDim S512x16x50x50 ![0, 1, 2, 3] bcast_S1x1x50x50_S512x16x50x50_0_1_2_3
      (broadcastInDim S1x1x50x50 ![2, 3] bcast_S50x50_S1x1x50x50_2_3 t))

/-- The previous tags. -/
def prevTags (y : IVec S16x512 32) : IVec S16x512 32 :=
  concatenate S16x512 1 [⟨S16x1, broadcastInDim S16x1 ![] bcast_S_S16x1 (constantI S_ 32 48#32)⟩,
    ⟨S16x511, extractStridedSlice S16x511 ![0, 0] y slices_S16x512_S16x511_0_0⟩] concatenates_S16x1_S16x511_S16x512_d1

/-- The previous tag and the tag as one number, word by word. -/
def encoded (y : IVec S16x512 32) : IVec S512x16x1 32 :=
  broadcastInDim S512x16x1 ![0, 1] bcast_S512x16_S512x16x1_0_1
    (transpose S512x16 [1, 0] (addi (muli (prevTags y) (broadcastInDim S16x512 ![] bcast_S_S16x512 (constantI S_ 32 50#32))) y)
      transposes_S16x512_S512x16_1_0)

/-- The wrapped index of the first take. -/
def wrapA (e : IVec S512x16x1 32) : IVec S512x16x1x1 32 :=
  shapeCast S512x16x1x1 (select (cmpi .slt e (broadcastInDim S512x16x1 ![] bcast_S_S512x16x1 (constantI S_ 32 0#32)))
    (addi e (broadcastInDim S512x16x1 ![] bcast_S_S512x16x1 (constantI S_ 32 2500#32))) e) shapeCasts_S512x16x1_S512x16x1x1

/-- The first take: the scores of the given path, word by word. -/
def takeA (x : FVec F S512x16x2500 .f32) (e : IVec S512x16x1 32) : FVec F S512x16x1 .f32 :=
  select (Host.reduce IntOp.andi
      (andi (cmpi .sge (wrapA e) (broadcastInDim S512x16x1x1 ![] bcast_S_S512x16x1x1 (constantI S_ 32 0#32)))
        (cmpi .sle (wrapA e) (broadcastInDim S512x16x1x1 ![0, 1, 2, 3] bcast_S1x1x1x1_S512x16x1x1_0_1_2_3
          (broadcastInDim S1x1x1x1 ![3] bcast_S1_S1x1x1x1_3 (constantI S1 32 2499#32)))))
      (constantI S_ 1 1#1) reducesTo_S512x16x1x1_S512x16x1_d3 h_S_)
    (Host.gather gather_S512x16x2500_S512x16x1x1_S512x16x1_n_2_01_01_2_3_111 x (wrapA e))
    (broadcastInDim S512x16x1 ![] bcast_S_S512x16x1 (constant S_ .f32 0x7FC00000#32))

/-- The sum of the scores of the unmasked words. -/
def energy (x : FVec F S512x16x1 .f32) (k : IVec S16x512 1) : FVec F S_ .f32 :=
  Host.reduceAdd (mulf (shapeCast S512x16 x shapeCasts_S512x16x1_S512x16)
    (uitofp .f32 (transpose S512x16 [1, 0] k transposes_S16x512_S512x16_1_0))) (constant S_ .f32 0x00000000#32)
    reducesTo_S512x16_S_d0_1 h_S_

/-- The place of the last unmasked word. -/
def lastWord (k : IVec S16x512 1) : IVec S16x1 32 :=
  broadcastInDim S16x1 ![0] bcast_S16_S16x1_0
    (subi (Host.reduce IntOp.addi (extui 32 k natLt_1_32) (constantI S_ 32 0#32) reducesTo_S16x512_S16_d1 h_S_)
      (broadcastInDim S16 ![] bcast_S_S16 (constantI S_ 32 1#32)))

/-- The wrapped index of the second take. -/
def wrapB (e : IVec S16x1 32) : IVec S16x1x1 32 :=
  shapeCast S16x1x1 (select (cmpi .slt e (broadcastInDim S16x1 ![] bcast_S_S16x1 (constantI S_ 32 0#32)))
    (addi e (broadcastInDim S16x1 ![] bcast_S_S16x1 (constantI S_ 32 512#32))) e) shapeCasts_S16x1_S16x1x1

/-- The second take: the tag of the last unmasked word. -/
def takeB (y : IVec S16x512 32) (e : IVec S16x1 32) : IVec S16x1 32 :=
  select (Host.reduce IntOp.andi
      (andi (cmpi .sge (wrapB e) (broadcastInDim S16x1x1 ![] bcast_S_S16x1x1 (constantI S_ 32 0#32)))
        (cmpi .sle (wrapB e) (broadcastInDim S16x1x1 ![0, 1, 2] bcast_S1x1x1_S16x1x1_0_1_2
          (broadcastInDim S1x1x1 ![2] bcast_S1_S1x1x1_2 (constantI S1 32 511#32)))))
      (constantI S_ 1 1#1) reducesTo_S16x1x1_S16x1_d2 h_S_)
    (Host.gather gather_S16x512_S16x1x1_S16x1_n_1_0_0_1_2_11 y (wrapB e))
    (broadcastInDim S16x1 ![] bcast_S_S16x1 (constantI S_ 32 2147483648#32))

/-- The pairs (last tag, end tag) the last transition is read at. -/
def lastPair (e : IVec S16x1 32) : IVec S16x2 32 :=
  concatenate S16x2 1
    [⟨S16x1, broadcastInDim S16x1 ![0] bcast_S16_S16x1_0
        (select (cmpi .slt (shapeCast S16 e shapeCasts_S16x1_S16) (broadcastInDim S16 ![] bcast_S_S16 (constantI S_ 32 0#32)))
          (addi (shapeCast S16 e shapeCasts_S16x1_S16) (broadcastInDim S16 ![] bcast_S_S16 (constantI S_ 32 50#32)))
          (shapeCast S16 e shapeCasts_S16x1_S16))⟩,
      ⟨S16x1, broadcastInDim S16x1 ![0] bcast_S16_S16x1_0 (id (broadcastInDim S16 ![] bcast_S_S16 (constantI S_ 32 49#32)))⟩]
    concatenates_S16x1_S16x1_S16x2_d1

/-- The score of the last transitions. -/
def lastEnergy (t : FVec F S50x50 .f32) (e : IVec S16x1 32) : FVec F S_ .f32 :=
  Host.reduceAdd (Host.gather gather_S50x50_S16x2_S16_n_01_n_n_01_1_11 t (lastPair e)) (constant S_ .f32 0x00000000#32)
    reducesTo_S16_S_d0 h_S_

/-- The score of the given path. -/
def goldOf (f : FVec F S16x512x50 .f32) (k : IVec S16x512 1) (y : IVec S16x512 32) (t : FVec F S50x50 .f32) : FVec F S_ .f32 :=
  addf (energy (takeA (shapeCast S512x16x2500 (scores f t) shapeCasts_S512x16x50x50_S512x16x2500) (encoded y)) k)
    (lastEnergy t (takeB y (lastWord k)))

/-- The loop's start: the scores of word 0 from the begin tag. -/
def start (f : FVec F S16x512x50 .f32) (t : FVec F S50x50 .f32) : FVec F S16x50 .f32 :=
  shapeCast S16x50 (extractStridedSlice S16x1x50 ![0, 48, 0]
    (shapeCast S16x50x50 (extractStridedSlice S1x16x50x50 ![0, 0, 0, 0] (scores f t) slices_S512x16x50x50_S1x16x50x50_0_0_0_0)
      shapeCasts_S1x16x50x50_S16x50x50) slices_S16x50x50_S16x1x50_0_48_0) shapeCasts_S16x1x50_S16x50

/-- The scores and mask bits of words 1 … 511. -/
def tailScores (f : FVec F S16x512x50 .f32) (t : FVec F S50x50 .f32) : FVec F S511x16x50x50 .f32 :=
  extractStridedSlice S511x16x50x50 ![1, 0, 0, 0] (scores f t) slices_S512x16x50x50_S511x16x50x50_1_0_0_0
def tailMask (k : IVec S16x512 1) : IVec S511x16 1 :=
  extractStridedSlice S511x16 ![1, 0] (transpose S512x16 [1, 0] k transposes_S16x512_S512x16_1_0) slices_S512x16_S511x16_1_0

/-- The log-sum-exp over the previous tag. -/
def lse (x : FVec F S16x50x50 .f32) : FVec F S16x50 .f32 :=
  addf (shapeCast S16x50 (broadcastInDim S16x1x50 ![0, 2] bcast_S16x50_S16x1x50_0_2
      (Host.reduce FloatOps.maximumf x (constant S_ .f32 0xFF800000#32) reducesTo_S16x50x50_S16x50_d1 h_S_)) shapeCasts_S16x1x50_S16x50)
    (Host.log (Host.reduceAdd (Host.exp (subf x (broadcastInDim S16x50x50 ![0, 1, 2] bcast_S16x1x50_S16x50x50_0_1_2
      (broadcastInDim S16x1x50 ![0, 2] bcast_S16x50_S16x1x50_0_2
        (Host.reduce FloatOps.maximumf x (constant S_ .f32 0xFF800000#32) reducesTo_S16x50x50_S16x50_d1 h_S_)))))
      (constant S_ .f32 0x00000000#32) reducesTo_S16x50x50_S16x50_d1 h_S_))

/-- One word of the loop. -/
def step (x : FVec F S511x16x50x50 .f32) (k : IVec S511x16 1) (n : IVec S_ 32) (p : FVec F S16x50 .f32) : FVec F S16x50 .f32 :=
  select (broadcastInDim S16x50 ![0, 1] bcast_S16x1_S16x50_0_1 (broadcastInDim S16x1 ![0] bcast_S16_S16x1_0
      (shapeCast S16 (Host.dynamicSlice S1x16 k
        (fun a => ((![n, constantI S_ 32 0#32] : Fin 2 → IVec S_ 32) a (Shape.Idx.first h_S_)).toInt) sliceFits_S511x16_S1x16) shapeCasts_S1x16_S16)))
    (lse (addf (shapeCast S16x50x50 (Host.dynamicSlice S1x16x50x50 x
        (fun a => ((![n, constantI S_ 32 0#32, constantI S_ 32 0#32, constantI S_ 32 0#32] : Fin 4 → IVec S_ 32) a (Shape.Idx.first h_S_)).toInt)
        sliceFits_S511x16x50x50_S1x16x50x50) shapeCasts_S1x16x50x50_S16x50x50)
      (broadcastInDim S16x50x50 ![0, 1, 2] bcast_S16x50x1_S16x50x50_0_1_2 (broadcastInDim S16x50x1 ![0, 1] bcast_S16x50_S16x50x1_0_1 p))))
    p

/-- The sum of the log-partition functions, from the vector after the last word. -/
def total (t : FVec F S50x50 .f32) (p : FVec F S16x50 .f32) : FVec F S_ .f32 :=
  Host.reduceAdd (shapeCast S16 (extractStridedSlice S16x1 ![0, 49]
    (lse (addf (broadcastInDim S16x50x50 ![0, 1, 2] bcast_S1x50x50_S16x50x50_0_1_2 (broadcastInDim S1x50x50 ![1, 2] bcast_S50x50_S1x50x50_1_2 t))
      (broadcastInDim S16x50x50 ![0, 1, 2] bcast_S16x50x1_S16x50x50_0_1_2 (broadcastInDim S16x50x1 ![0, 1] bcast_S16x50_S16x50x1_0_1 p))))
    slices_S16x50_S16x1_0_49) shapeCasts_S16x1_S16) (constant S_ .f32 0x00000000#32) reducesTo_S16_S_d0 h_S_

/-- The vector before the `k`-th pass of the loop. -/
def state (f : FVec F S16x512x50 .f32) (k : IVec S16x512 1) (t : FVec F S50x50 .f32) : ℕ → FVec F S16x50 .f32
  | 0 => start f t
  | n + 1 => step (tailScores f t) (tailMask k) (fun _ => Scf.iv 0#32 1#32 n) (state f k t n)

/-! ## The stretches before the loop -/

section
variable (V : Valuation τ sig (Elt F))

theorem p0_v5 : after hostOps0 V (Proc.devRef .tc main_v5) = scores (V (Proc.devRef .tc main_arg0)) (V (Proc.devRef .tc main_arg3)) := by
  after_results
  rfl
theorem p0_v12 : after hostOps0 V (Proc.devRef .tc main_v12)
    = shapeCast S512x16x2500 (scores (V (Proc.devRef .tc main_arg0)) (V (Proc.devRef .tc main_arg3))) shapeCasts_S512x16x50x50_S512x16x2500 := by
  after_results
  rfl
theorem p0_v14 : after hostOps0 V (Proc.devRef .tc main_v14) = encoded (V (Proc.devRef .tc main_arg2)) := by
  after_results
  rfl
theorem p1_v15 : after hostOps0_1 V (Proc.devRef .tc main_v15) = takeA (V (Proc.devRef .tc main_v12)) (V (Proc.devRef .tc main_v14)) := by
  after_results
  rfl
theorem p2_v17 : after hostOps0_2 V (Proc.devRef .tc main_v17)
    = transpose S512x16 [1, 0] (V (Proc.devRef .tc main_arg1) : IVec S16x512 1) transposes_S16x512_S512x16_1_0 := by
  after_results
theorem p2_v20 : after hostOps0_2 V (Proc.devRef .tc main_v20) = energy (V (Proc.devRef .tc main_v15)) (V (Proc.devRef .tc main_arg1)) := by
  after_results
  rfl
theorem p2_v25 : after hostOps0_2 V (Proc.devRef .tc main_v25) = lastWord (V (Proc.devRef .tc main_arg1)) := by
  after_results
  rfl
theorem p3_v26 : after hostOps0_3 V (Proc.devRef .tc main_v26) = takeB (V (Proc.devRef .tc main_arg2)) (V (Proc.devRef .tc main_v25)) := by
  after_results
  rfl
theorem p4_v40 : after hostOps0_4 V (Proc.devRef .tc main_v40)
    = addf (V (Proc.devRef .tc main_v20)) (lastEnergy (V (Proc.devRef .tc main_arg3)) (V (Proc.devRef .tc main_v26))) := by
  after_results
  rfl
theorem p4_v47_0 : after hostOps0_4 V (Proc.devRef .tc main_v47_0)
    = extractStridedSlice S511x16x50x50 ![1, 0, 0, 0] (V (Proc.devRef .tc main_v5) : FVec F S512x16x50x50 .f32) slices_S512x16x50x50_S511x16x50x50_1_0_0_0 := by
  after_results
  rfl
theorem p4_v47_1 : after hostOps0_4 V (Proc.devRef .tc main_v47_1)
    = extractStridedSlice S511x16 ![1, 0] (V (Proc.devRef .tc main_v17) : IVec S512x16 1) slices_S512x16_S511x16_1_0 := by
  after_results
  rfl
theorem p4_v47_3 : after hostOps0_4 V (Proc.devRef .tc main_v47_3)
    = shapeCast S16x50 (extractStridedSlice S16x1x50 ![0, 48, 0]
        (shapeCast S16x50x50 (extractStridedSlice S1x16x50x50 ![0, 0, 0, 0] (V (Proc.devRef .tc main_v5) : FVec F S512x16x50x50 .f32) slices_S512x16x50x50_S1x16x50x50_0_0_0_0)
          shapeCasts_S1x16x50x50_S16x50x50) slices_S16x50x50_S16x1x50_0_48_0) shapeCasts_S16x1x50_S16x50 := by
  after_results
  rfl
theorem p5_v65 : after hostOps0_5 V (Proc.devRef .tc main_v65)
    = subf (total (V (Proc.devRef .tc main_arg3)) (V (Proc.devRef .tc main_v47_3))) (V (Proc.devRef .tc main_v40)) := by
  after_results
  rfl

end

variable (m : (ℓ : Loc nD τ sig) → Buf (Elt F) ℓ) (ρ : Dev nD → PrngReg) (c : Dev nD)

/-- The arguments, as launched. -/
abbrev A0 : FVec F S16x512x50 .f32 := m ((c : Thread nD τ).loc main_arg0)
abbrev A1 : IVec S16x512 1 := m ((c : Thread nD τ).loc main_arg1)
abbrev A2 : IVec S16x512 32 := m ((c : Thread nD τ).loc main_arg2)
abbrev A3 : FVec F S50x50 .f32 := m ((c : Thread nD τ).loc main_arg3)

section
variable (V : Valuation τ sig (Elt F)) (r : Ref sig .tc)

/-- A buffer that a stretch does not write keeps its contents through it. -/
theorem keep0 (h : r ∉ hostOps0_W) : after hostOps0 V (Proc.devRef .tc r) = V (Proc.devRef .tc r) := after_of_writes_sub _ V hostOps0_writes h
theorem keep1 (h : r ∉ hostOps0_1_W) : after hostOps0_1 V (Proc.devRef .tc r) = V (Proc.devRef .tc r) := after_of_writes_sub _ V hostOps0_1_writes h
theorem keep2 (h : r ∉ hostOps0_2_W) : after hostOps0_2 V (Proc.devRef .tc r) = V (Proc.devRef .tc r) := after_of_writes_sub _ V hostOps0_2_writes h
theorem keep3 (h : r ∉ hostOps0_3_W) : after hostOps0_3 V (Proc.devRef .tc r) = V (Proc.devRef .tc r) := after_of_writes_sub _ V hostOps0_3_writes h
theorem keep4 (h : r ∉ hostOps0_4_W) : after hostOps0_4 V (Proc.devRef .tc r) = V (Proc.devRef .tc r) := after_of_writes_sub _ V hostOps0_4_writes h
theorem keep5_arg0 : after hostOps0_5 V (Proc.devRef .tc main_arg0) = V (Proc.devRef .tc main_arg0) := by after_results
theorem keep5_arg1 : after hostOps0_5 V (Proc.devRef .tc main_arg1) = V (Proc.devRef .tc main_arg1) := by after_results
theorem keep5_arg2 : after hostOps0_5 V (Proc.devRef .tc main_arg2) = V (Proc.devRef .tc main_arg2) := by after_results
theorem keep5_arg3 : after hostOps0_5 V (Proc.devRef .tc main_arg3) = V (Proc.devRef .tc main_arg3) := by after_results

/-- So does one that the condition and the body do not write, through one pass, -/
theorem keepPass (hc : r ∉ condOps_W) (h0 : r ∉ while0Ops0_W) (h1 : r ∉ while0Ops0_1_W) (h2 : r ∉ while0Ops0_2_W)
    (h3 : r ∉ while0Ops0_3_W) (h4 : r ∉ while0Ops0_4_W) :
    afterL bodyI (after condOps V) (Proc.devRef .tc r) = V (Proc.devRef .tc r) := by
  simp only [afterL_cons, afterL_nil]
  rw [after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]
end

/-- and through any number of them. -/
theorem keepLoop (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) :
    ∀ k, atK m k c (Proc.devRef .tc r) = entryContents preI m c (Proc.devRef .tc r)
  | 0 => rfl
  | k + 1 => by
    rw [show atK m (k + 1) c = afterL bodyI (after condOps (atK m k c)) from rfl, keepPass _ r hc h0 h1 h2 h3 h4,
      keepLoop r hc h0 h1 h2 h3 h4 k]

/-! ## The loop's entry -/

theorem entry_arg (r : Ref sig .tc) (h0 : r ∉ hostOps0_W) (h1 : r ∉ hostOps0_1_W) (h2 : r ∉ hostOps0_2_W) (h3 : r ∉ hostOps0_3_W)
    (h4 : r ∉ hostOps0_4_W) : entryContents preI m c (Proc.devRef .tc r) = m ((c : Thread nD τ).loc r) := by
  simp only [entryContents, afterL_cons, afterL_nil]
  rw [keep4 _ r h4, keep3 _ r h3, keep2 _ r h2, keep1 _ r h1, keep0 _ r h0]

theorem entry_v47_0 : entryContents preI m c (Proc.devRef .tc main_v47_0) = tailScores (A0 m c) (A3 m c) := by
  simp only [entryContents, afterL_cons, afterL_nil]
  rw [p4_v47_0, keep3 _ main_v5 (by decide), keep2 _ main_v5 (by decide), keep1 _ main_v5 (by decide), p0_v5]
  rfl

theorem entry_v47_1 : entryContents preI m c (Proc.devRef .tc main_v47_1) = tailMask (A1 m c) := by
  simp only [entryContents, afterL_cons, afterL_nil]
  rw [p4_v47_1, keep3 _ main_v17 (by decide), p2_v17, keep1 _ main_arg1 (by decide), keep0 _ main_arg1 (by decide)]
  rfl

theorem entry_v47_3 : entryContents preI m c (Proc.devRef .tc main_v47_3) = start (A0 m c) (A3 m c) := by
  simp only [entryContents, afterL_cons, afterL_nil]
  rw [p4_v47_3, keep3 _ main_v5 (by decide), keep2 _ main_v5 (by decide), keep1 _ main_v5 (by decide), p0_v5]
  rfl

theorem entry_v40 : entryContents preI m c (Proc.devRef .tc main_v40) = goldOf (A0 m c) (A1 m c) (A2 m c) (A3 m c) := by
  simp only [entryContents, afterL_cons, afterL_nil]
  rw [p4_v40, keep3 _ main_v20 (by decide), p2_v20, p3_v26, p2_v25, p1_v15, p0_v12, p0_v14,
    keep3 _ main_arg3 (by decide), keep2 _ main_arg3 (by decide), keep1 _ main_arg3 (by decide), keep0 _ main_arg3 (by decide),
    keep2 _ main_arg2 (by decide), keep1 _ main_arg2 (by decide), keep0 _ main_arg2 (by decide),
    keep1 _ main_arg1 (by decide), keep0 _ main_arg1 (by decide)]
  rfl

/-! ## The loop -/

theorem pass_v47_3 (V : Valuation τ sig (Elt F)) : afterL bodyI (after condOps V) (Proc.devRef .tc main_v47_3)
    = step (V (Proc.devRef .tc main_v47_0)) (V (Proc.devRef .tc main_v47_1)) (V (Proc.devRef .tc main_v47_2)) (V (Proc.devRef .tc main_v47_3)) :=
  (trip_agree V main_v47_3 (by decide)).trans (STEP_main_v47_3 V)

/-- Before the `k`-th pass the loop carries `state` at `k`. -/
theorem atK_state : ∀ k, atK m k c (Proc.devRef .tc main_v47_3) = state (A0 m c) (A1 m c) (A3 m c) k
  | 0 => entry_v47_3 m c
  | k + 1 => by
    have h0 : atK m k c (Proc.devRef .tc main_v47_0) = tailScores (A0 m c) (A3 m c) := by
      rw [keepLoop m c main_v47_0 (by decide) (by decide) (by decide) (by decide) (by decide) (by decide), entry_v47_0]
    have h1 : atK m k c (Proc.devRef .tc main_v47_1) = tailMask (A1 m c) := by
      rw [keepLoop m c main_v47_1 (by decide) (by decide) (by decide) (by decide) (by decide) (by decide), entry_v47_1]
    rw [show atK m (k + 1) c = afterL bodyI (after condOps (atK m k c)) from rfl, pass_v47_3, h0, h1, atK_ctr, atK_state k]
    rfl

/-! ## The run -/

theorem final_arg (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (k0 : r ∉ hostOps0_W) (k1 : r ∉ hostOps0_1_W) (k2 : r ∉ hostOps0_2_W)
    (k3 : r ∉ hostOps0_3_W) (k4 : r ∉ hostOps0_4_W) (k5 : ∀ V : Valuation τ sig (Elt F), after hostOps0_5 V (Proc.devRef .tc r) = V (Proc.devRef .tc r)) :
    finalContents condOps preI bodyI postI 511 m c (Proc.devRef .tc r) = m ((c : Thread nD τ).loc r) := by
  unfold finalContents
  simp only [afterL_cons, afterL_nil]
  rw [k5, after_of_writes_sub _ _ condOps_writes hc]
  exact (keepLoop m c r hc h0 h1 h2 h3 h4 511).trans (entry_arg m c r k0 k1 k2 k3 k4)

theorem final_v65 : finalContents condOps preI bodyI postI 511 m c (Proc.devRef .tc main_v65)
    = subf (total (A3 m c) (state (A0 m c) (A1 m c) (A3 m c) 511)) (goldOf (A0 m c) (A1 m c) (A2 m c) (A3 m c)) := by
  unfold finalContents
  simp only [afterL_cons, afterL_nil]
  rw [p5_v65, after_of_writes_sub condOps _ condOps_writes (r := main_arg3) (by decide),
    after_of_writes_sub condOps _ condOps_writes (r := main_v47_3) (by decide),
    after_of_writes_sub condOps _ condOps_writes (r := main_v40) (by decide)]
  rw [show atTrip condOps bodyI (entryContents preI m) 511 c (Proc.devRef .tc main_v47_3) = _ from atK_state m c 511,
    show atTrip condOps bodyI (entryContents preI m) 511 c (Proc.devRef .tc main_arg3) = _ from
      (keepLoop m c main_arg3 (by decide) (by decide) (by decide) (by decide) (by decide) (by decide) 511).trans
        (entry_arg m c main_arg3 (by decide) (by decide) (by decide) (by decide) (by decide)),
    show atTrip condOps bodyI (entryContents preI m) 511 c (Proc.devRef .tc main_v40) = _ from
      (keepLoop m c main_v40 (by decide) (by decide) (by decide) (by decide) (by decide) (by decide) 511).trans (entry_v40 m c)]

/-- The run, read: the result at its term, the arguments unchanged. -/
theorem run : θ_run (defs (F := F)) (onTc (τ := τ) (main (F := F))) ⟨m, fun _ => 0, ρ⟩ (fun r => ∀ c : Dev nD,
      r.2.mem ((c : Thread nD τ).loc main_v65)
        = subf (total (A3 m c) (state (A0 m c) (A1 m c) (A3 m c) 511)) (goldOf (A0 m c) (A1 m c) (A2 m c) (A3 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run (defs (F := F)) _ _).mono (fun r h c => ⟨(h c main_v65 rfl).trans (final_v65 m c),
      (h c main_arg0 rfl).trans (final_arg m c _ (by decide) (by decide) (by decide) (by decide) (by decide) (by decide) (by decide) (by decide) (by decide) (by decide) (by decide) keep5_arg0),
      (h c main_arg1 rfl).trans (final_arg m c _ (by decide) (by decide) (by decide) (by decide) (by decide) (by decide) (by decide) (by decide) (by decide) (by decide) (by decide) keep5_arg1),
      (h c main_arg2 rfl).trans (final_arg m c _ (by decide) (by decide) (by decide) (by decide) (by decide) (by decide) (by decide) (by decide) (by decide) (by decide) (by decide) keep5_arg2),
      (h c main_arg3 rfl).trans (final_arg m c _ (by decide) (by decide) (by decide) (by decide) (by decide) (by decide) (by decide) (by decide) (by decide) (by decide) (by decide) keep5_arg3)⟩)
    (run_fold m ρ)

end Cert.ReferenceIdeal.Value

end
-- ==== Proof.RefScore.lean ====
/-
  What the reference computes of the partition function over the extended reals, on finite features and transitions
  and with no word masked: its loop carries the logarithm of the forward sums, and its last line sums the
  log-partition functions.
-/
module

public import proofs.«01_k».proof.Proof.RefRun
public import proofs.«01_k».proof.Proof.Math
public import Idealize.ShloMosaic.Lib.Pointwise
public import Idealize.ShloMosaic.Lib.DynamicIndex

@[expose] public section

noncomputable section

namespace Cert.ReferenceIdeal.Value

open Idealize.ShloMosaic Idealize.SL.Sem
open Cert.ReferenceIdeal Cert.ReferenceIdeal.Gen Cert.Crf Idealize.ShloMosaic.Pointwise
open Idealize.ShloMosaic (Ideal)

/-- The word of `-∞`. -/
theorem ofBits_neg_inf : Ideal.ofBits .f32 0xFF800000#32 = (⊥ : EReal) := by
  simp [Ideal.ofBits, Ideal.ieee]

theorem scores_apply (f : FVec Ideal S16x512x50 .f32) (t : FVec Ideal S50x50 .f32) (s : Fin 512) (b : Fin 16) (i j : Fin 50) :
    scores f t (ix4 s b i j) = f (ix3 b s j) + t (ix2 i j) := by
  pointwise [scores]

theorem start_apply (f : FVec Ideal S16x512x50 .f32) (t : FVec Ideal S50x50 .f32) (b : Fin 16) (j : Fin 50) :
    start f t (ix2 b j) = f (ix3 b (0 : Fin 512) j) + t (ix2 (48 : Fin 50) j) := by
  pointwise [start, scores]

theorem tailScores_apply (f : FVec Ideal S16x512x50 .f32) (t : FVec Ideal S50x50 .f32) (s : Fin 511) (b : Fin 16) (i j : Fin 50) :
    tailScores f t (ix4 s b i j) = f (ix3 b (⟨s.val + 1, by omega⟩ : Fin 512) j) + t (ix2 i j) := by
  simp only [Nat.add_comm s.val 1]
  pointwise [tailScores, scores]

theorem tailMask_apply (k : IVec S16x512 1) (s : Fin 511) (b : Fin 16) :
    tailMask k (ix2 s b) = k (ix2 b (⟨s.val + 1, by omega⟩ : Fin 512)) := by
  simp only [Nat.add_comm s.val 1]
  pointwise [tailMask]

theorem lse_apply (x : FVec Ideal S16x50x50 .f32) (b : Fin 16) (j : Fin 50) :
    lse x (ix2 b j) = Finset.univ.fold max (Ideal.ofBits .f32 0xFF800000#32) (fun i => x (ix3 b i j))
      + Ideal.log (∑ i : Fin 50, Ideal.exp (x (ix3 b i j) - Finset.univ.fold max (Ideal.ofBits .f32 0xFF800000#32) (fun i => x (ix3 b i j)))) := by
  pointwise [lse]

/-- The log-sum-exp of finite entries. -/
theorem lse_coe (x : FVec Ideal S16x50x50 .f32) (y : Fin 50 → ℝ) (b : Fin 16) (j : Fin 50) (h : ∀ i, x (ix3 b i j) = (y i : EReal)) :
    lse x (ix2 b j) = ((rmax y + Real.log (∑ i, Real.exp (y i - rmax y)) : ℝ) : EReal) := by
  rw [lse_apply]
  simp only [h, ofBits_neg_inf, fold_max_coe]
  have e : ∀ i, Ideal.exp ((y i : EReal) - (rmax y : EReal)) = ((Real.exp (y i - rmax y) : ℝ) : EReal) := fun i => by
    rw [← EReal.coe_sub]; rfl
  have p : 0 < ∑ i, Real.exp (y i - rmax y) := Finset.sum_pos (fun i _ => Real.exp_pos _) ⟨0, Finset.mem_univ _⟩
  simp only [e, sum_coe]
  rw [show Ideal.log ((∑ i, Real.exp (y i - rmax y) : ℝ) : EReal)
      = if (∑ i, Real.exp (y i - rmax y)) ≤ 0 then ⊥ else ((Real.log (∑ i, Real.exp (y i - rmax y)) : ℝ) : EReal) from rfl,
    if_neg p.not_ge, ← EReal.coe_add]

theorem iv_toInt (n : ℕ) (h : n < 511) : (Scf.iv 0#32 1#32 n : BitVec 32).toInt = n := by
  rw [show (Scf.iv 0#32 1#32 n : BitVec 32) = BitVec.ofNat 32 n by simp [Scf.iv]]
  exact toInt_ofNat_of_lt (by omega)

/-- Row `n` of the mask bits, -/
theorem row_mask (k : IVec S511x16 1) (n : ℕ) (h : n < 511) (b : Fin 16) :
    shapeCast S16 (Host.dynamicSlice S1x16 k
        (fun a => ((![fun _ => Scf.iv 0#32 1#32 n, constantI S_ 32 0#32] : Fin 2 → IVec S_ 32) a (Shape.Idx.first h_S_)).toInt) sliceFits_S511x16_S1x16)
      shapeCasts_S1x16_S16 (ix1 b) = k (ix2 (⟨n, h⟩ : Fin 511) b) := by
  have hs : S511x16.Slices ![n, 0] S1x16 := ⟨rfl, fun a => by
    fin_cases a
    · show n + 1 ≤ 511; omega
    · show 0 + 16 ≤ 16; omega⟩
  rw [Host.dynamicSlice_eq_extractStridedSlice S1x16 k _ ![n, 0] sliceFits_S511x16_S1x16 hs (fun a => by
    fin_cases a
    · exact iv_toInt n h
    · rfl)]
  pointwise

/-- and of the scores. -/
theorem row_scores (x : FVec Ideal S511x16x50x50 .f32) (n : ℕ) (h : n < 511) (b : Fin 16) (i j : Fin 50) :
    shapeCast S16x50x50 (Host.dynamicSlice S1x16x50x50 x
        (fun a => ((![fun _ => Scf.iv 0#32 1#32 n, constantI S_ 32 0#32, constantI S_ 32 0#32, constantI S_ 32 0#32] : Fin 4 → IVec S_ 32) a (Shape.Idx.first h_S_)).toInt)
        sliceFits_S511x16x50x50_S1x16x50x50) shapeCasts_S1x16x50x50_S16x50x50 (ix3 b i j) = x (ix4 (⟨n, h⟩ : Fin 511) b i j) := by
  have hs : S511x16x50x50.Slices ![n, 0, 0, 0] S1x16x50x50 := ⟨rfl, fun a => by
    fin_cases a
    · show n + 1 ≤ 511; omega
    · show 0 + 16 ≤ 16; omega
    · show 0 + 50 ≤ 50; omega
    · show 0 + 50 ≤ 50; omega⟩
  rw [Host.dynamicSlice_eq_extractStridedSlice S1x16x50x50 x _ ![n, 0, 0, 0] sliceFits_S511x16x50x50_S1x16x50x50 hs (fun a => by
    fin_cases a
    · exact iv_toInt n h
    · rfl
    · rfl
    · rfl)]
  pointwise

/-- One unmasked word: the log-sum-exp of the word's scores on top of the carried vector. -/
theorem step_coe (x : FVec Ideal S511x16x50x50 .f32) (k : IVec S511x16 1) (n : ℕ) (h : n < 511) (p : FVec Ideal S16x50 .f32)
    (b : Fin 16) (j : Fin 50) (y z : Fin 50 → ℝ) (hk : k (ix2 (⟨n, h⟩ : Fin 511) b) = 1#1)
    (hx : ∀ i, x (ix4 (⟨n, h⟩ : Fin 511) b i j) = (y i : EReal)) (hp : ∀ i, p (ix2 b i) = (z i : EReal)) :
    step x k (fun _ => Scf.iv 0#32 1#32 n) p (ix2 b j)
      = ((rmax (fun i => y i + z i) + Real.log (∑ i, Real.exp (y i + z i - rmax (fun i => y i + z i))) : ℝ) : EReal) := by
  have hm := row_mask k n h b
  have hr := fun i => row_scores x n h b i j
  have hb (M : IVec S16 1) : broadcastInDim S16x50 ![0, 1] bcast_S16x1_S16x50_0_1 (broadcastInDim S16x1 ![0] bcast_S16_S16x1_0 M) (ix2 b j)
      = M (ix1 b) := by pointwise
  unfold step
  rw [show ∀ (c : IVec S16x50 1) (u v : FVec Ideal S16x50 .f32) (i : S16x50.Idx), select c u v i = if c i = 1 then u i else v i from fun _ _ _ _ => rfl,
    hb, hm, hk, if_pos (show (1#1 : BitVec 1) = 1 from rfl)]
  refine lse_coe _ _ b j fun i => ?_
  rw [addf_apply, hr, hx]
  refine Eq.trans ?_ (congrArg (fun e : EReal => (y i : EReal) + e) (hp i))
  pointwise

section
variable (f : Fin 16 → ℕ → Fin 50 → ℝ) (t : Fin 50 → Fin 50 → ℝ)
  (a0 : FVec Ideal S16x512x50 .f32) (a1 : IVec S16x512 1) (a3 : FVec Ideal S50x50 .f32)
  (h0 : ∀ b (s : Fin 512) j, a0 (ix3 b s j) = (f b s.val j : EReal)) (h1 : ∀ b s, a1 (ix2 b s) = 1#1)
  (h3 : ∀ i j, a3 (ix2 i j) = (t i j : EReal))
include h0 h1 h3

/-- Before the `n`-th pass the loop carries the logarithms of the forward sums of word `n`. -/
theorem state_coe : ∀ n ≤ 511, ∀ b j, state a0 a1 a3 n (ix2 b j) = ((Real.log (fwd (f b) t n j) : ℝ) : EReal)
  | 0, _, b, j => by
    rw [state, start_apply, h0, h3, ← EReal.coe_add, log_start]
    rfl
  | n + 1, hn, b, j => by
    have hs := step_coe (tailScores a0 a3) (tailMask a1) n (by omega) (state a0 a1 a3 n) b j
      (fun i => f b (n + 1) j + t i j) (fun i => Real.log (fwd (f b) t n i)) (by rw [tailMask_apply, h1])
      (fun i => by rw [tailScores_apply, h0, h3, ← EReal.coe_add]) (fun i => state_coe n (by omega) b i)
    rw [state, hs, log_step]

/-- The sum of the log-partition functions. -/
theorem total_coe : total a3 (state a0 a1 a3 511) = fun _ => ((∑ b, logZ (f b) t : ℝ) : EReal) := by
  have hl (b : Fin 16) : lse (addf (broadcastInDim S16x50x50 ![0, 1, 2] bcast_S1x50x50_S16x50x50_0_1_2 (broadcastInDim S1x50x50 ![1, 2] bcast_S50x50_S1x50x50_1_2 a3))
      (broadcastInDim S16x50x50 ![0, 1, 2] bcast_S16x50x1_S16x50x50_0_1_2 (broadcastInDim S16x50x1 ![0, 1] bcast_S16x50_S16x50x1_0_1 (state a0 a1 a3 511))))
        (ix2 b (49 : Fin 50)) = ((logZ (f b) t : ℝ) : EReal) := by
    refine (lse_coe _ (fun i => t i eos + Real.log (fwd (f b) t 511 i)) b 49 fun i => ?_).trans ?_
    · rw [EReal.coe_add, ← state_coe f t a0 a1 a3 h0 h1 h3 511 le_rfl b i, show (t i eos : EReal) = a3 (ix2 i (49 : Fin 50)) from (h3 i 49).symm]
      pointwise
    · rw [log_finish]
  funext u
  rw [← sum_coe]
  simp only [← hl]
  unfold total
  generalize lse (F := Ideal) _ = L
  obtain rfl : u = ix0 := funext fun a => a.elim0
  pointwise
end

end Cert.ReferenceIdeal.Value

end
-- ==== Proof.RefGold.lean ====
/-
  What the reference computes of the score of the given path over the extended reals, with no word masked and every
  tag in range: both takes and the last lookup read inside their tables, at the previous tag and the tag, at the last
  word, and at the last tag and the end tag.
-/
module

public import proofs.«01_k».proof.Proof.RefScore
public import Idealize.ShloMosaic.Lib.ReduceAll
public import Idealize.ShloMosaic.Lib.StableHlo.Predicate
public import Idealize.ShloMosaic.Lib.Pipeline.Value

@[expose] public section

noncomputable section

namespace Cert.ReferenceIdeal.Value

open Idealize.ShloMosaic Idealize.SL.Sem
open Cert.ReferenceIdeal Cert.ReferenceIdeal.Gen Cert.Crf Idealize.ShloMosaic.Pointwise
open Idealize.ShloMosaic (Ideal)

/-! ## The three lookups -/

/-- The first take's gather reads the table at the clamped index word. -/
theorem gatherA {α : Type} (x : S512x16x2500.Idx → α) (e : IVec S512x16x1x1 32) (s : Fin 512) (b : Fin 16) (n : Fin 2500)
    (h : (e (ix4 s b (0 : Fin 1) (0 : Fin 1))).toInt = n.val) :
    Host.gather gather_S512x16x2500_S512x16x1x1_S512x16x1_n_2_01_01_2_3_111 x e (ix3 s b (0 : Fin 1)) = x (ix3 s b n) := by
  have hi : gather_S512x16x2500_S512x16x1x1_S512x16x1_n_2_01_01_2_3_111.siIdx (ix3 s b (0 : Fin 1)) ⟨0, Nat.zero_lt_one⟩
      = ix4 s b (0 : Fin 1) (0 : Fin 1) := by
    funext a; refine Fin.ext ?_
    match a with
    | ⟨0, _⟩ => rfl
    | ⟨1, _⟩ => rfl
    | ⟨2, _⟩ => rfl
    | ⟨3, _⟩ => rfl
  unfold Host.gather
  congr 1
  funext a; refine Fin.ext ?_
  match a with
  | ⟨0, _⟩ => exact (Nat.zero_add s.val)
  | ⟨1, _⟩ => exact (Nat.zero_add b.val)
  | ⟨2, _⟩ =>
    show min (e (gather_S512x16x2500_S512x16x1x1_S512x16x1_n_2_01_01_2_3_111.siIdx (ix3 s b (0 : Fin 1)) ⟨0, Nat.zero_lt_one⟩)).toInt.toNat 2499 + 0 + 0 = n.val
    rw [hi, h]
    omega

/-- The second take's gather reads the row at the clamped index word. -/
theorem gatherB {α : Type} (x : S16x512.Idx → α) (e : IVec S16x1x1 32) (b : Fin 16) (n : Fin 512)
    (h : (e (ix3 b (0 : Fin 1) (0 : Fin 1))).toInt = n.val) :
    Host.gather gather_S16x512_S16x1x1_S16x1_n_1_0_0_1_2_11 x e (ix2 b (0 : Fin 1)) = x (ix2 b n) := by
  have hi : gather_S16x512_S16x1x1_S16x1_n_1_0_0_1_2_11.siIdx (ix2 b (0 : Fin 1)) ⟨0, Nat.zero_lt_one⟩
      = ix3 b (0 : Fin 1) (0 : Fin 1) := by
    funext a; refine Fin.ext ?_
    match a with
    | ⟨0, _⟩ => rfl
    | ⟨1, _⟩ => rfl
    | ⟨2, _⟩ => rfl
  unfold Host.gather
  congr 1
  funext a; refine Fin.ext ?_
  match a with
  | ⟨0, _⟩ => exact (Nat.zero_add b.val)
  | ⟨1, _⟩ =>
    show min (e (gather_S16x512_S16x1x1_S16x1_n_1_0_0_1_2_11.siIdx (ix2 b (0 : Fin 1)) ⟨0, Nat.zero_lt_one⟩)).toInt.toNat 511 + 0 + 0 = n.val
    rw [hi, h]
    omega

/-- The last lookup reads the transitions at the clamped pair of index words. -/
theorem gatherC {α : Type} (x : S50x50.Idx → α) (e : IVec S16x2 32) (b : Fin 16) (i j : Fin 50)
    (h0 : (e (ix2 b (0 : Fin 2))).toInt = i.val) (h1 : (e (ix2 b (1 : Fin 2))).toInt = j.val) :
    Host.gather gather_S50x50_S16x2_S16_n_01_n_n_01_1_11 x e (ix1 b) = x (ix2 i j) := by
  have hi (q : Fin 2) : gather_S50x50_S16x2_S16_n_01_n_n_01_1_11.siIdx (ix1 b) q = ix2 b q := by
    funext a; refine Fin.ext ?_
    match a with
    | ⟨0, _⟩ => rfl
    | ⟨1, _⟩ => rfl
  unfold Host.gather
  congr 1
  funext a; refine Fin.ext ?_
  match a with
  | ⟨0, _⟩ =>
    show min (e (gather_S50x50_S16x2_S16_n_01_n_n_01_1_11.siIdx (ix1 b) (0 : Fin 2))).toInt.toNat 49 + 0 + 0 = i.val
    rw [hi, h0]
    omega
  | ⟨1, _⟩ =>
    show min (e (gather_S50x50_S16x2_S16_n_01_n_n_01_1_11.siIdx (ix1 b) (1 : Fin 2))).toInt.toNat 49 + 0 + 0 = j.val
    rw [hi, h1]
    omega

/-! ## Index words that are numbers -/

/-- A select takes its first branch where its condition is one. -/
theorem select_at {s : Shape} {α : Type} (c : IVec s 1) (u v : s.Idx → α) (i : s.Idx) (h : c i = 1#1) : select c u v i = u i :=
  if_pos h

/-- The wrap of a negative index leaves a number as it is. -/
theorem wrap_ofNat (n : ℕ) (hn : n < 2500) (d : BitVec 32) :
    (if IntOp.cmpi .slt (BitVec.ofNat 32 n) 0#32 = 1 then d else BitVec.ofNat 32 n) = BitVec.ofNat 32 n := by
  rw [if_neg]
  intro h
  have := IntOp.cmpi_slt.1 h
  rw [toInt_ofNat_of_lt (by omega)] at this
  exact absurd this (by simp)

/-- A number in range passes both comparisons of the range check. -/
theorem range_ofNat (n k : ℕ) (hn : n ≤ k) (hk : k < 2500) :
    IntOp.andi (IntOp.cmpi .sge (BitVec.ofNat 32 n) 0#32) (IntOp.cmpi .sle (BitVec.ofNat 32 n) (BitVec.ofNat 32 k)) = 1#1 := by
  rw [IntOp.cmpi_sge.2 (by rw [toInt_ofNat_of_lt (k := n) (by omega)]; simp),
    IntOp.cmpi_sle.2 (by rw [toInt_ofNat_of_lt (k := n) (by omega), toInt_ofNat_of_lt (k := k) (by omega)]; omega)]
  rfl

section
variable (e : IVec S512x16x1 32) (N : Fin 512 → Fin 16 → ℕ) (hN : ∀ s b, N s b < 2500)
  (he : ∀ s b, e (ix3 s b (0 : Fin 1)) = BitVec.ofNat 32 (N s b))
include hN he

theorem wrapA_apply (s : Fin 512) (b : Fin 16) : wrapA e (ix4 s b (0 : Fin 1) (0 : Fin 1)) = BitVec.ofNat 32 (N s b) := by
  refine Eq.trans (b := if IntOp.cmpi .slt (e (ix3 s b (0 : Fin 1))) 0#32 = 1 then IntOp.addi (e (ix3 s b (0 : Fin 1))) 2500#32 else e (ix3 s b (0 : Fin 1))) ?_ ?_
  · pointwise [wrapA]
    rfl
  · rw [he, wrap_ofNat _ (hN s b)]

/-- The first take, in range: the table's entry. -/
theorem takeA_apply (x : FVec Ideal S512x16x2500 .f32) (s : Fin 512) (b : Fin 16) :
    takeA x e (ix3 s b (0 : Fin 1)) = x (ix3 s b (⟨N s b, hN s b⟩ : Fin 2500)) := by
  have hw := wrapA_apply e N hN he
  have hm : Host.reduce IntOp.andi
      (andi (cmpi .sge (wrapA e) (broadcastInDim S512x16x1x1 ![] bcast_S_S512x16x1x1 (constantI S_ 32 0#32)))
        (cmpi .sle (wrapA e) (broadcastInDim S512x16x1x1 ![0, 1, 2, 3] bcast_S1x1x1x1_S512x16x1x1_0_1_2_3
          (broadcastInDim S1x1x1x1 ![3] bcast_S1_S1x1x1x1_3 (constantI S1 32 2499#32)))))
      (constantI S_ 1 1#1) reducesTo_S512x16x1x1_S512x16x1_d3 h_S_ (ix3 s b (0 : Fin 1)) = 1#1 := by
    refine Host.reduce_andi_one _ _ _ _ _ rfl fun i => ?_
    obtain ⟨s, b, rfl⟩ : ∃ (s : Fin 512) (b : Fin 16), i = ix4 s b (0 : Fin 1) (0 : Fin 1) := ⟨i 0, i 1, by
      funext a
      match a with
      | ⟨0, _⟩ => rfl
      | ⟨1, _⟩ => rfl
      | ⟨2, _⟩ => exact Subsingleton.elim (α := Fin 1) _ _
      | ⟨3, _⟩ => exact Subsingleton.elim (α := Fin 1) _ _⟩
    exact (congrArg (fun w => IntOp.andi (IntOp.cmpi .sge w 0#32) (IntOp.cmpi .sle w 2499#32)) (hw s b)).trans
      (range_ofNat (N s b) 2499 (by have := hN s b; omega) (by omega))
  unfold takeA
  rw [select_at _ _ _ _ hm]
  exact gatherA x _ s b ⟨N s b, hN s b⟩ (by rw [hw, toInt_ofNat_of_lt (by have := hN s b; omega)])
end

section
variable (e : IVec S16x1 32) (N : Fin 16 → ℕ) (hN : ∀ b, N b < 512) (he : ∀ b, e (ix2 b (0 : Fin 1)) = BitVec.ofNat 32 (N b))
include hN he

theorem wrapB_apply (b : Fin 16) : wrapB e (ix3 b (0 : Fin 1) (0 : Fin 1)) = BitVec.ofNat 32 (N b) := by
  refine Eq.trans (b := if IntOp.cmpi .slt (e (ix2 b (0 : Fin 1))) 0#32 = 1 then IntOp.addi (e (ix2 b (0 : Fin 1))) 512#32 else e (ix2 b (0 : Fin 1))) ?_ ?_
  · pointwise [wrapB]
    rfl
  · rw [he, wrap_ofNat _ (by have := hN b; omega)]

/-- The second take, in range: the row's entry. -/
theorem takeB_apply (y : IVec S16x512 32) (b : Fin 16) : takeB y e (ix2 b (0 : Fin 1)) = y (ix2 b (⟨N b, hN b⟩ : Fin 512)) := by
  have hw := wrapB_apply e N hN he
  have hm : Host.reduce IntOp.andi
      (andi (cmpi .sge (wrapB e) (broadcastInDim S16x1x1 ![] bcast_S_S16x1x1 (constantI S_ 32 0#32)))
        (cmpi .sle (wrapB e) (broadcastInDim S16x1x1 ![0, 1, 2] bcast_S1x1x1_S16x1x1_0_1_2
          (broadcastInDim S1x1x1 ![2] bcast_S1_S1x1x1_2 (constantI S1 32 511#32)))))
      (constantI S_ 1 1#1) reducesTo_S16x1x1_S16x1_d2 h_S_ (ix2 b (0 : Fin 1)) = 1#1 := by
    refine Host.reduce_andi_one _ _ _ _ _ rfl fun i => ?_
    obtain ⟨b, rfl⟩ : ∃ b : Fin 16, i = ix3 b (0 : Fin 1) (0 : Fin 1) := ⟨i 0, by
      funext a
      match a with
      | ⟨0, _⟩ => rfl
      | ⟨1, _⟩ => exact Subsingleton.elim (α := Fin 1) _ _
      | ⟨2, _⟩ => exact Subsingleton.elim (α := Fin 1) _ _⟩
    exact (congrArg (fun w => IntOp.andi (IntOp.cmpi .sge w 0#32) (IntOp.cmpi .sle w 511#32)) (hw b)).trans
      (range_ofNat (N b) 511 (by have := hN b; omega) (by omega))
  unfold takeB
  rw [select_at _ _ _ _ hm]
  exact gatherB y _ b ⟨N b, hN b⟩ (by rw [hw, toInt_ofNat_of_lt (by have := hN b; omega)])
end

/-! ## The path -/

section
variable (f : Fin 16 → ℕ → Fin 50 → ℝ) (t : Fin 50 → Fin 50 → ℝ) (g : Fin 16 → Fin 512 → Fin 50)
  (a0 : FVec Ideal S16x512x50 .f32) (a1 : IVec S16x512 1) (a2 : IVec S16x512 32) (a3 : FVec Ideal S50x50 .f32)
  (h0 : ∀ b (s : Fin 512) j, a0 (ix3 b s j) = (f b s.val j : EReal)) (h1 : ∀ b s, a1 (ix2 b s) = 1#1)
  (h2 : ∀ b s, a2 (ix2 b s) = BitVec.ofNat 32 (g b s).val) (h3 : ∀ i j, a3 (ix2 i j) = (t i j : EReal))

include h2 in
/-- The shifted tags: the begin tag, then the tags before. -/
theorem prevTags_apply (b : Fin 16) (s : Fin 512) : prevTags a2 (ix2 b s) = BitVec.ofNat 32 (prev (g b) s).val := by
  unfold prevTags
  by_cases h : s.val = 0
  · rw [concatenate_pair_apply_left (1 : Fin S16x512.rank) _ _ concatenates_S16x1_S16x511_S16x512_d1 (ix2 b s) rfl (ix2 b (0 : Fin 1))
      (fun a => by match a with | ⟨0, _⟩ => rfl | ⟨1, _⟩ => exact h.symm)]
    simp only [prev, h, dif_pos]
    rfl
  · rw [concatenate_pair_apply_right (1 : Fin S16x512.rank) _ _ concatenates_S16x1_S16x511_S16x512_d1 (ix2 b s) rfl rfl
      (ix2 b (⟨s.val - 1, by omega⟩ : Fin 511))
      (fun a ha => by match a with | ⟨0, _⟩ => rfl | ⟨1, _⟩ => exact absurd rfl ha)
      (by show s.val - 1 + 1 = s.val; omega)]
    have e : extractStridedSlice S16x511 ![0, 0] a2 slices_S16x512_S16x511_0_0 (ix2 b (⟨s.val - 1, by omega⟩ : Fin 511))
        = a2 (ix2 b (⟨s.val - 1, by omega⟩ : Fin 512)) := by
      pointwise
    rw [e, h2, prev, dif_neg h]

include h2 in
/-- The pair (previous tag, tag) as one number. -/
theorem encoded_apply (s : Fin 512) (b : Fin 16) :
    encoded a2 (ix3 s b (0 : Fin 1)) = BitVec.ofNat 32 ((prev (g b) s).val * 50 + (g b s).val) := by
  have e : encoded a2 (ix3 s b (0 : Fin 1)) = IntOp.addi (IntOp.muli (prevTags a2 (ix2 b s)) 50#32) (a2 (ix2 b s)) := by
    unfold encoded
    generalize prevTags a2 = p
    pointwise
  rw [e, prevTags_apply g a2 h2, h2]
  show BitVec.ofNat 32 _ * BitVec.ofNat 32 50 + BitVec.ofNat 32 _ = _
  rw [← BitVec.ofNat_mul, ← BitVec.ofNat_add]

theorem flat_apply (s : Fin 512) (b : Fin 16) (i j : Fin 50) (h : i.val * 50 + j.val < 2500) :
    shapeCast S512x16x2500 (scores a0 a3) shapeCasts_S512x16x50x50_S512x16x2500 (ix3 s b (⟨i.val * 50 + j.val, h⟩ : Fin 2500))
      = scores a0 a3 (ix4 s b i j) := by
  generalize scores a0 a3 = x
  pointwise

include h0 h1 h2 h3 in
/-- The sum of the path's scores. -/
theorem energy_coe : energy (takeA (shapeCast S512x16x2500 (scores a0 a3) shapeCasts_S512x16x50x50_S512x16x2500) (encoded a2)) a1 ix0
    = ((∑ s : Fin 512, ∑ b : Fin 16, (f b s.val (g b s) + t (prev (g b) s) (g b s)) : ℝ) : EReal) := by
  have hN (s : Fin 512) (b : Fin 16) : (prev (g b) s).val * 50 + (g b s).val < 2500 := by
    have := (prev (g b) s).isLt; have := (g b s).isLt; omega
  have ht (s : Fin 512) (b : Fin 16) := takeA_apply (encoded a2) (fun s b => (prev (g b) s).val * 50 + (g b s).val) hN
    (fun s b => encoded_apply g a2 h2 s b) (shapeCast S512x16x2500 (scores a0 a3) shapeCasts_S512x16x50x50_S512x16x2500) s b
  have hv (s : Fin 512) (b : Fin 16) : takeA (shapeCast S512x16x2500 (scores a0 a3) shapeCasts_S512x16x50x50_S512x16x2500) (encoded a2) (ix3 s b (0 : Fin 1))
      = ((f b s.val (g b s) + t (prev (g b) s) (g b s) : ℝ) : EReal) := by
    rw [ht, flat_apply, scores_apply, h0, h3, EReal.coe_add]
  have he (x : FVec Ideal S512x16x1 .f32) : energy x a1 ix0 = ∑ s : Fin 512, ∑ b : Fin 16, x (ix3 s b (0 : Fin 1)) * FloatOps.uitofp .f32 (a1 (ix2 b s)) := by
    pointwise [energy]
  have one : (FloatOps.uitofp .f32 (1#1) : Ideal .f32) = (1 : EReal) := by
    show (((1#1 : BitVec 1).toNat : ℝ) : EReal) = 1
    simp
  rw [he]
  simp only [hv, h1, one, mul_one, sum_coe]

include h1 in
/-- The last unmasked word is word 511. -/
theorem lastWord_apply (b : Fin 16) : lastWord a1 (ix2 b (0 : Fin 1)) = BitVec.ofNat 32 511 := by
  have hc : Host.reduce IntOp.addi (extui 32 a1 natLt_1_32) (constantI S_ 32 0#32) reducesTo_S16x512_S16_d1 h_S_ (ix1 b) = 512#32 := by
    refine BitVec.eq_of_toNat_eq ((StableHlo.Predicate.toNat_reduce_count_cols (by omega) a1 natLt_1_32 reducesTo_S16x512_S16_d1 h_S_ (ix1 b)).trans ?_)
    exact (congrArg Finset.card (Finset.filter_true_of_mem fun q _ => h1 b q)).trans (Finset.card_fin 512)
  have e : lastWord a1 (ix2 b (0 : Fin 1))
      = IntOp.subi (Host.reduce IntOp.addi (extui 32 a1 natLt_1_32) (constantI S_ 32 0#32) reducesTo_S16x512_S16_d1 h_S_ (ix1 b)) 1#32 := by
    unfold lastWord
    generalize Host.reduce IntOp.addi _ _ _ _ = r
    pointwise
  rw [e, hc]
  rfl

include h1 h2 in
theorem lastTag_apply (b : Fin 16) : takeB a2 (lastWord a1) (ix2 b (0 : Fin 1)) = BitVec.ofNat 32 (g b 511).val := by
  rw [takeB_apply (lastWord a1) (fun _ => 511) (fun _ => by omega) (fun b => lastWord_apply a1 h1 b) a2 b]
  exact h2 b 511

include h3 in
/-- The sum of the last transitions. -/
theorem lastEnergy_coe (e : IVec S16x1 32) (he : ∀ b, e (ix2 b (0 : Fin 1)) = BitVec.ofNat 32 (g b 511).val) :
    lastEnergy a3 e ix0 = ((∑ b : Fin 16, t (g b 511) eos : ℝ) : EReal) := by
  have hp0 (b : Fin 16) : lastPair e (ix2 b (0 : Fin 2)) = BitVec.ofNat 32 (g b 511).val := by
    unfold lastPair
    rw [concatenate_pair_apply_left (1 : Fin S16x2.rank) _ _ concatenates_S16x1_S16x1_S16x2_d1 (ix2 b (0 : Fin 2)) rfl (ix2 b (0 : Fin 1))
      (fun a => by match a with | ⟨0, _⟩ => rfl | ⟨1, _⟩ => rfl)]
    refine Eq.trans (b := if IntOp.cmpi .slt (e (ix2 b (0 : Fin 1))) 0#32 = 1 then IntOp.addi (e (ix2 b (0 : Fin 1))) 50#32 else e (ix2 b (0 : Fin 1))) ?_ ?_
    · pointwise
      rfl
    · rw [he, wrap_ofNat _ (by have := (g b 511).isLt; omega)]
  have hp1 (b : Fin 16) : lastPair e (ix2 b (1 : Fin 2)) = BitVec.ofNat 32 49 := by
    unfold lastPair
    rw [concatenate_pair_apply_right (1 : Fin S16x2.rank) _ _ concatenates_S16x1_S16x1_S16x2_d1 (ix2 b (1 : Fin 2)) rfl rfl
      (ix2 b (0 : Fin 1)) (fun a ha => by match a with | ⟨0, _⟩ => rfl | ⟨1, _⟩ => exact absurd rfl ha) rfl]
    rfl
  have hg (b : Fin 16) : Host.gather gather_S50x50_S16x2_S16_n_01_n_n_01_1_11 a3 (lastPair e) (ix1 b) = ((t (g b 511) eos : ℝ) : EReal) := by
    rw [gatherC a3 (lastPair e) b (g b 511) eos (by rw [hp0, toInt_ofNat_of_lt (by have := (g b 511).isLt; omega)])
      (by rw [hp1]; rfl), h3]
  rw [← sum_coe]
  simp only [← hg]
  unfold lastEnergy
  generalize Host.gather gather_S50x50_S16x2_S16_n_01_n_n_01_1_11 a3 (lastPair e) = G
  pointwise

include h0 h1 h2 h3 in
/-- The score of the given path. -/
theorem goldOf_coe : goldOf a0 a1 a2 a3 = fun _ => ((gold f t g : ℝ) : EReal) := by
  funext u
  obtain rfl : u = ix0 := funext fun a => a.elim0
  unfold goldOf
  rw [addf_apply, energy_coe f t g a0 a1 a2 a3 h0 h1 h2 h3,
    lastEnergy_coe t g a3 h3 _ (fun b => lastTag_apply g a1 a2 h1 h2 b)]
  exact (EReal.coe_add _ _).symm

include h0 h1 h2 h3 in
/-- The reference's result over the extended reals: the loss. -/
theorem result_eq : subf (total a3 (state a0 a1 a3 511)) (goldOf a0 a1 a2 a3) = fun _ => ((loss f t g : ℝ) : EReal) := by
  rw [total_coe f t a0 a1 a3 h0 h1 h3, goldOf_coe f t g a0 a1 a2 a3 h0 h1 h2 h3]
  funext u
  exact (EReal.coe_sub _ _).symm
end

end Cert.ReferenceIdeal.Value

end
-- ==== Proof.Equation.lean ====
/-
  The equation: from memories that agree on the arguments, of which the precondition holds, the kernel and the
  reference end with the same loss. And the reference's frame.
-/
module

public import proofs.«01_k».proof.Proof.Inputs
public import proofs.«01_k».proof.Proof.KernelArray
public import proofs.«01_k».proof.Proof.RefGold
public import Idealize.ShloMosaic.Lib.Quiescent

@[expose] public section

noncomputable section

namespace Cert.Crf

open Idealize.ShloMosaic Idealize.SL.Sem
open Idealize.ShloMosaic (Ideal)

/-- The reference runs, leaves its arguments unchanged, and has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems (by decide) r.2⟩) (Cert.ReferenceIdeal.Value.run m ρ)

/-- On one device, with equal arguments of which the precondition holds, the two results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_unmasked_finite_tags.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    subf (Cert.ReferenceIdeal.Value.total (F := Ideal) (Cert.ReferenceIdeal.Value.A3 m' c)
        (Cert.ReferenceIdeal.Value.state (Cert.ReferenceIdeal.Value.A0 m' c) (Cert.ReferenceIdeal.Value.A1 m' c) (Cert.ReferenceIdeal.Value.A3 m' c) 511))
      (Cert.ReferenceIdeal.Value.goldOf (Cert.ReferenceIdeal.Value.A0 m' c) (Cert.ReferenceIdeal.Value.A1 m' c) (Cert.ReferenceIdeal.Value.A2 m' c)
        (Cert.ReferenceIdeal.Value.A3 m' c))
      = (shapeCast Cert.KernelIdeal.S_ (Cert.KernelIdeal.Value.out m c) Cert.KernelIdeal.Gen.shapeCasts_S1x1_S_ : FVec Ideal Cert.KernelIdeal.S_ .f32) := by
  obtain ⟨f, t, g, h0, h1, h2, h3⟩ := inputs_of_pre _ _ _ _ hp
  obtain ⟨e0, e1, e2, e3⟩ := h
  refine (Cert.ReferenceIdeal.Value.result_eq f t g _ _ _ _ ?_ ?_ ?_ ?_).trans (Cert.KernelIdeal.Value.result_eq m c f t g h0 h2 h3).symm
  · exact fun b s j => (congrFun e0 _).trans (h0 b s j)
  · exact fun b s => (congrFun e1 _).trans (h1 b s)
  · exact fun b s => (congrFun e2 _).trans (h2 b s)
  · exact fun i j => (congrFun e3 _).trans (h3 i j)

end Cert.Crf

end
-- ==== Proof.lean ====
/-
  The proof of `Cert.Claim`. The frames of the kernel and of its idealization are the generated ones; the
  reference's frame and the equation of the two results are in Proof/Equation.lean.
-/
module

public import proofs.«01_k».proof.Defs
public import proofs.«01_k».proof.Proof.Gen.Kernel.Frame
public import proofs.«01_k».proof.Proof.Gen.KernelIdeal.Frame
public import proofs.«01_k».proof.Proof.Equation

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_unmasked_finite_tags.Gen.facts,
    fun m ρ _ => Cert.Kernel.Gen.frame m ρ,
    fun m ρ _ => Cert.KernelIdeal.Gen.frame m ρ,
    fun m ρ _ => Cert.KernelIdeal.Gen.frame m ρ,
    fun m ρ _ => Cert.Crf.reference_frame m ρ,
    fun m ρ _ => Cert.Crf.reference_frame m ρ,
    trivial,
    fun m ρ m' ρ' hp h => ⟨fun c => shapeCast Cert.KernelIdeal.S_ (Cert.KernelIdeal.Value.out m c) Cert.KernelIdeal.Gen.shapeCasts_S1x1_S_,
      Cert.KernelIdeal.Value.run m ρ,
      (θ_run _ _ _).mono (fun _ hr c => ⟨(hr c).1.trans (Cert.Crf.results_eq m m' c (hp c) (h c)), (hr c).2⟩) (Cert.ReferenceIdeal.Value.run m' ρ')⟩⟩

end Cert.Proof

end
